-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S100000x8 : Shape := ⟨2, ![100000, 8]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000x8x1 : Shape := ⟨3, ![100000, 8, 1]⟩
abbrev S100000x8x128 : Shape := ⟨3, ![100000, 8, 128]⟩
abbrev S100000x8x8 : Shape := ⟨3, ![100000, 8, 8]⟩
abbrev S100000x1x8 : Shape := ⟨3, ![100000, 1, 8]⟩
abbrev S100000x64 : Shape := ⟨2, ![100000, 64]⟩
abbrev S100000 : Shape := ⟨1, ![100000]⟩
abbrev S100000x1 : Shape := ⟨2, ![100000, 1]⟩
abbrev S100000x1x1 : Shape := ⟨3, ![100000, 1, 1]⟩
abbrev S1 : Shape := ⟨1, ![1]⟩
abbrev S1x1x1 : Shape := ⟨3, ![1, 1, 1]⟩
abbrev S1x128 : Shape := ⟨2, ![1, 128]⟩
abbrev S1000x128 : Shape := ⟨2, ![1000, 128]⟩
abbrev S1000x1 : Shape := ⟨2, ![1000, 1]⟩
abbrev S1x64 : Shape := ⟨2, ![1, 64]⟩
abbrev S1000x64 : Shape := ⟨2, ![1000, 64]⟩

abbrev nBuf : Space → Nat
  | .hbm => 227
  | .vmem => 22
  | .smem => 0
  | _ => 0

abbrev hbmTy0_0 (i : Nat) : BufTy := match i % 128 with
  | 0 => ⟨S100000x128, .f32⟩
  | 1 => ⟨S100000x8, .i32⟩
  | 2 => ⟨S128x128, .f32⟩
  | 3 => ⟨S128, .f32⟩
  | 4 => ⟨S128x64, .f32⟩
  | 5 => ⟨S64, .f32⟩
  | 6 => ⟨S_, .i32⟩
  | 7 => ⟨S100000x8, .i32⟩
  | 8 => ⟨S100000x8, .i1⟩
  | 9 => ⟨S_, .i32⟩
  | 10 => ⟨S100000x8, .i32⟩
  | 11 => ⟨S100000x8, .i32⟩
  | 12 => ⟨S100000x8, .i32⟩
  | 13 => ⟨S100000x8x1, .i32⟩
  | 14 => ⟨S100000x8x128, .f32⟩
  | 15 => ⟨S100000x8x128, .f32⟩
  | 16 => ⟨S_, .f32⟩
  | 17 => ⟨S100000x8, .f32⟩
  | 18 => ⟨S100000x8x8, .f32⟩
  | 19 => ⟨S100000x8x1, .f32⟩
  | 20 => ⟨S100000x1x8, .f32⟩
  | 21 => ⟨S100000x8x8, .f32⟩
  | 22 => ⟨S100000x8x8, .f32⟩
  | 23 => ⟨S100000x8x8, .f32⟩
  | 24 => ⟨S_, .f32⟩
  | 25 => ⟨S100000x8x8, .f32⟩
  | 26 => ⟨S100000x8x8, .f32⟩
  | 27 => ⟨S100000x8x8, .f32⟩
  | 28 => ⟨S100000x64, .f32⟩
  | 29 => ⟨S100000x64, .i32⟩
  | 30 => ⟨S_, .f32⟩
  | 31 => ⟨S_, .i32⟩
  | 32 => ⟨S100000, .f32⟩
  | 33 => ⟨S100000, .i32⟩
  | 34 => ⟨S_, .i32⟩
  | 35 => ⟨S_, .i32⟩
  | 36 => ⟨S100000, .i32⟩
  | 37 => ⟨S100000, .i32⟩
  | 38 => ⟨S100000, .i32⟩
  | 39 => ⟨S_, .i32⟩
  | 40 => ⟨S100000, .i32⟩
  | 41 => ⟨S100000, .i1⟩
  | 42 => ⟨S100000, .i32⟩
  | 43 => ⟨S100000, .i32⟩
  | 44 => ⟨S_, .i32⟩
  | 45 => ⟨S100000, .i32⟩
  | 46 => ⟨S100000, .i1⟩
  | 47 => ⟨S100000, .i1⟩
  | 48 => ⟨S_, .i32⟩
  | 49 => ⟨S100000, .i32⟩
  | 50 => ⟨S100000, .i32⟩
  | 51 => ⟨S100000, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S100000, .i32⟩
  | 59 => ⟨S100000, .i32⟩
  | 60 => ⟨S_, .i32⟩
  | 61 => ⟨S100000, .i32⟩
  | 62 => ⟨S100000, .i1⟩
  | 63 => ⟨S_, .i32⟩
  | 64 => ⟨S100000, .i32⟩
  | 65 => ⟨S100000, .i1⟩
  | 66 => ⟨S_, .i32⟩
  | 67 => ⟨S_, .i1⟩
  | 68 => ⟨S100000, .i1⟩
  | 69 => ⟨S100000, .i1⟩
  | 70 => ⟨S100000, .i1⟩
  | 71 => ⟨S100000, .i32⟩
  | 72 => ⟨S100000, .i32⟩
  | 73 => ⟨S100000, .i32⟩
  | 74 => ⟨S100000x1, .i32⟩
  | 75 => ⟨S_, .i32⟩
  | 76 => ⟨S100000x1, .i32⟩
  | 77 => ⟨S100000x1, .i1⟩
  | 78 => ⟨S_, .i32⟩
  | 79 => ⟨S100000x1, .i32⟩
  | 80 => ⟨S100000x1, .i32⟩
  | 81 => ⟨S100000x1, .i32⟩
  | 82 => ⟨S100000x1x1, .i32⟩
  | 83 => ⟨S1, .i32⟩
  | 84 => ⟨S_, .i32⟩
  | 85 => ⟨S100000x1x1, .i32⟩
  | 86 => ⟨S100000x1x1, .i1⟩
  | 87 => ⟨S1x1x1, .i32⟩
  | 88 => ⟨S100000x1x1, .i32⟩
  | 89 => ⟨S100000x1x1, .i1⟩
  | 90 => ⟨S100000x1x1, .i1⟩
  | 91 => ⟨S_, .i1⟩
  | 92 => ⟨S100000x1, .i1⟩
  | 93 => ⟨S100000x1, .i32⟩
  | 94 => ⟨S_, .i32⟩
  | 95 => ⟨S100000x1, .i32⟩
  | 96 => ⟨S100000x1, .i32⟩
  | 97 => ⟨S100000, .i32⟩
  | 98 => ⟨S100000x1, .i32⟩
  | 99 => ⟨S_, .i32⟩
  | 100 => ⟨S100000x1, .i32⟩
  | 101 => ⟨S100000x1, .i1⟩
  | 102 => ⟨S_, .i32⟩
  | 103 => ⟨S100000x1, .i32⟩
  | 104 => ⟨S100000x1, .i32⟩
  | 105 => ⟨S100000x1, .i32⟩
  | 106 => ⟨S100000x1x1, .i32⟩
  | 107 => ⟨S1, .i32⟩
  | 108 => ⟨S_, .i32⟩
  | 109 => ⟨S100000x1x1, .i32⟩
  | 110 => ⟨S100000x1x1, .i1⟩
  | 111 => ⟨S1x1x1, .i32⟩
  | 112 => ⟨S100000x1x1, .i32⟩
  | 113 => ⟨S100000x1x1, .i1⟩
  | 114 => ⟨S100000x1x1, .i1⟩
  | 115 => ⟨S_, .i1⟩
  | 116 => ⟨S100000x1, .i1⟩
  | 117 => ⟨S100000x1, .i32⟩
  | 118 => ⟨S_, .i32⟩
  | 119 => ⟨S100000x1, .i32⟩
  | 120 => ⟨S100000x1, .i32⟩
  | 121 => ⟨S100000, .i32⟩
  | 122 => ⟨S_, .f32⟩
  | 123 => ⟨S100000, .f32⟩
  | 124 => ⟨S_, .i32⟩
  | 125 => ⟨S100000, .i32⟩
  | 126 => ⟨S100000, .i1⟩
  | 127 => ⟨S_, .i32⟩
  | _ => ⟨S100000x128, .f32⟩

abbrev hbmTy0_1 (i : Nat) : BufTy := match i % 128 with
  | 0 => ⟨S100000, .i32⟩
  | 1 => ⟨S100000, .i32⟩
  | 2 => ⟨S100000, .i32⟩
  | 3 => ⟨S100000x1, .i32⟩
  | 4 => ⟨S_, .f32⟩
  | 5 => ⟨S100000, .f32⟩
  | 6 => ⟨S100000, .f32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S_, .f32⟩
  | 16 => ⟨S100000, .f32⟩
  | 17 => ⟨S100000, .f32⟩
  | 18 => ⟨S100000, .f32⟩
  | 19 => ⟨S1x128, .f32⟩
  | 20 => ⟨S100000x1, .f32⟩
  | 21 => ⟨S100000x128, .f32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x128, .f32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000x128, .f32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S100000x128, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000x128, .f32⟩
  | 58 => ⟨S1x64, .f32⟩
  | 59 => ⟨S100000x1, .f32⟩
  | 60 => ⟨S100000x64, .f32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x64, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000x64, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x64, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000x64, .f32⟩
  | 97 => ⟨S100000x1, .f32⟩
  | 98 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x1, .f32⟩
  | .local _ .vmem, ⟨5, _⟩ => ⟨S1000x1, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S128x64, .f32⟩
  | .local _ .vmem, ⟨11, _⟩ => ⟨S1x64, .f32⟩
  | .local _ .vmem, ⟨12, _⟩ => ⟨S1000x1, .f32⟩
  | .local _ .vmem, ⟨13, _⟩ => ⟨S1000x1, .f32⟩
  | .local _ .vmem, ⟨14, _⟩ => ⟨S1000x64, .f32⟩
  | .local _ .vmem, ⟨15, _⟩ => ⟨S1000x64, .f32⟩
  | .local _ .vmem, ⟨16, _⟩ => ⟨S1000x64, .f32⟩
  | .local _ .vmem, ⟨17, _⟩ => ⟨S1000x64, .f32⟩
  | .local _ .vmem, ⟨18, _⟩ => ⟨S1000x1, .f32⟩
  | .local _ .vmem, ⟨19, _⟩ => ⟨S1000x1, .f32⟩
  | .local _ .vmem, ⟨20, _⟩ => ⟨S1000x64, .f32⟩
  | .local _ .vmem, ⟨21, _⟩ => ⟨S1000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v19 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v20 : Ref sig .tc := ⟨.hbm, 51, rfl⟩
abbrev main_c_3 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v21 : Ref sig .tc := ⟨.hbm, 73, rfl⟩
abbrev main_v22 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_c_4 : Ref sig .tc := ⟨.hbm, 94, rfl⟩
abbrev main_call3_v14 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_c_4 : Ref sig .tc := ⟨.hbm, 118, rfl⟩
abbrev main_call4_v14 : Ref sig .tc := ⟨.hbm, 119, rfl⟩
abbrev main_v26 : Ref sig .tc := ⟨.hbm, 120, rfl⟩
abbrev main_v27 : Ref sig .tc := ⟨.hbm, 121, rfl⟩
abbrev main_cst_4 : Ref sig .tc := ⟨.hbm, 122, rfl⟩
abbrev main_v28 : Ref sig .tc := ⟨.hbm, 123, rfl⟩
abbrev main_c_5 : Ref sig .tc := ⟨.hbm, 124, rfl⟩
abbrev main_v29 : Ref sig .tc := ⟨.hbm, 125, rfl⟩
abbrev main_v30 : Ref sig .tc := ⟨.hbm, 126, rfl⟩
abbrev main_c_6 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_cst_7 : Ref sig .tc := ⟨.hbm, 132, rfl⟩
abbrev main_v35 : Ref sig .tc := ⟨.hbm, 133, rfl⟩
abbrev main_v36 : Ref sig .tc := ⟨.hbm, 134, rfl⟩
abbrev main_c_8 : Ref sig .tc := ⟨.hbm, 135, rfl⟩
abbrev main_v37 : Ref sig .tc := ⟨.hbm, 136, rfl⟩
abbrev main_v38 : Ref sig .tc := ⟨.hbm, 137, rfl⟩
abbrev main_c_9 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_v42 : Ref sig .tc := ⟨.hbm, 142, rfl⟩
abbrev main_cst_10 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_c_11 : Ref sig .tc := ⟨.hbm, 150, rfl⟩
abbrev main_v49 : Ref sig .tc := ⟨.hbm, 151, rfl⟩
abbrev main_v50 : Ref sig .tc := ⟨.hbm, 152, rfl⟩
abbrev main_c_12 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_c_13 : Ref sig .tc := ⟨.hbm, 159, rfl⟩
abbrev main_v56 : Ref sig .tc := ⟨.hbm, 160, rfl⟩
abbrev main_v57 : Ref sig .tc := ⟨.hbm, 161, rfl⟩
abbrev main_c_14 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_c_15 : Ref sig .tc := ⟨.hbm, 168, rfl⟩
abbrev main_v63 : Ref sig .tc := ⟨.hbm, 169, rfl⟩
abbrev main_v64 : Ref sig .tc := ⟨.hbm, 170, rfl⟩
abbrev main_c_16 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_c_17 : Ref sig .tc := ⟨.hbm, 177, rfl⟩
abbrev main_v70 : Ref sig .tc := ⟨.hbm, 178, rfl⟩
abbrev main_v71 : Ref sig .tc := ⟨.hbm, 179, rfl⟩
abbrev main_c_18 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_c_19 : Ref sig .tc := ⟨.hbm, 189, rfl⟩
abbrev main_v80 : Ref sig .tc := ⟨.hbm, 190, rfl⟩
abbrev main_v81 : Ref sig .tc := ⟨.hbm, 191, rfl⟩
abbrev main_c_20 : Ref sig .tc := ⟨.hbm, 192, rfl⟩
abbrev main_v82 : Ref sig .tc := ⟨.hbm, 193, rfl⟩
abbrev main_v83 : Ref sig .tc := ⟨.hbm, 194, rfl⟩
abbrev main_v84 : Ref sig .tc := ⟨.hbm, 195, rfl⟩
abbrev main_v85 : Ref sig .tc := ⟨.hbm, 196, rfl⟩
abbrev main_v86 : Ref sig .tc := ⟨.hbm, 197, rfl⟩
abbrev main_c_21 : Ref sig .tc := ⟨.hbm, 198, rfl⟩
abbrev main_v87 : Ref sig .tc := ⟨.hbm, 199, rfl⟩
abbrev main_v88 : Ref sig .tc := ⟨.hbm, 200, rfl⟩
abbrev main_c_22 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_c_23 : Ref sig .tc := ⟨.hbm, 207, rfl⟩
abbrev main_v94 : Ref sig .tc := ⟨.hbm, 208, rfl⟩
abbrev main_v95 : Ref sig .tc := ⟨.hbm, 209, rfl⟩
abbrev main_c_24 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_c_25 : Ref sig .tc := ⟨.hbm, 216, rfl⟩
abbrev main_v101 : Ref sig .tc := ⟨.hbm, 217, rfl⟩
abbrev main_v102 : Ref sig .tc := ⟨.hbm, 218, rfl⟩
abbrev main_c_26 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S100000x128 : Shape := ⟨2, ![100000, 128]⟩
abbrev S100000x8 : Shape := ⟨2, ![100000, 8]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000x8x1 : Shape := ⟨3, ![100000, 8, 1]⟩
abbrev S100000x8x128 : Shape := ⟨3, ![100000, 8, 128]⟩
abbrev S100000x8x8 : Shape := ⟨3, ![100000, 8, 8]⟩
abbrev S100000x1x8 : Shape := ⟨3, ![100000, 1, 8]⟩
abbrev S100000x64 : Shape := ⟨2, ![100000, 64]⟩
abbrev S100000 : Shape := ⟨1, ![100000]⟩
abbrev S100000x1 : Shape := ⟨2, ![100000, 1]⟩
abbrev S100000x1x1 : Shape := ⟨3, ![100000, 1, 1]⟩
abbrev S1 : Shape := ⟨1, ![1]⟩
abbrev S1x1x1 : Shape := ⟨3, ![1, 1, 1]⟩
abbrev S300000 : Shape := ⟨1, ![300000]⟩
abbrev S300000x1 : Shape := ⟨2, ![300000, 1]⟩
abbrev S1x128 : Shape := ⟨2, ![1, 128]⟩
abbrev S300000x128 : Shape := ⟨2, ![300000, 128]⟩
abbrev S1x64 : Shape := ⟨2, ![1, 64]⟩
abbrev S300000x64 : Shape := ⟨2, ![300000, 64]⟩

abbrev nBuf : Space → Nat
  | .hbm => 218
  | .vmem => 0
  | .smem => 0
  | _ => 0

abbrev hbmTy0_0 (i : Nat) : BufTy := match i % 128 with
  | 0 => ⟨S100000x128, .f32⟩
  | 1 => ⟨S100000x8, .i32⟩
  | 2 => ⟨S128x128, .f32⟩
  | 3 => ⟨S128, .f32⟩
  | 4 => ⟨S128x64, .f32⟩
  | 5 => ⟨S64, .f32⟩
  | 6 => ⟨S_, .i32⟩
  | 7 => ⟨S100000x8, .i32⟩
  | 8 => ⟨S100000x8, .i1⟩
  | 9 => ⟨S_, .i32⟩
  | 10 => ⟨S100000x8, .i32⟩
  | 11 => ⟨S100000x8, .i32⟩
  | 12 => ⟨S100000x8, .i32⟩
  | 13 => ⟨S100000x8x1, .i32⟩
  | 14 => ⟨S100000x8x128, .f32⟩
  | 15 => ⟨S100000x8x128, .f32⟩
  | 16 => ⟨S_, .f32⟩
  | 17 => ⟨S100000x8, .f32⟩
  | 18 => ⟨S100000x8x8, .f32⟩
  | 19 => ⟨S100000x8x1, .f32⟩
  | 20 => ⟨S100000x1x8, .f32⟩
  | 21 => ⟨S100000x8x8, .f32⟩
  | 22 => ⟨S100000x8x8, .f32⟩
  | 23 => ⟨S100000x8x8, .f32⟩
  | 24 => ⟨S_, .f32⟩
  | 25 => ⟨S100000x8x8, .f32⟩
  | 26 => ⟨S100000x8x8, .f32⟩
  | 27 => ⟨S100000x8x8, .f32⟩
  | 28 => ⟨S100000x64, .f32⟩
  | 29 => ⟨S100000x64, .i32⟩
  | 30 => ⟨S_, .f32⟩
  | 31 => ⟨S_, .i32⟩
  | 32 => ⟨S100000, .f32⟩
  | 33 => ⟨S100000, .i32⟩
  | 34 => ⟨S_, .i32⟩
  | 35 => ⟨S_, .i32⟩
  | 36 => ⟨S100000, .i32⟩
  | 37 => ⟨S100000, .i32⟩
  | 38 => ⟨S100000, .i32⟩
  | 39 => ⟨S_, .i32⟩
  | 40 => ⟨S100000, .i32⟩
  | 41 => ⟨S100000, .i1⟩
  | 42 => ⟨S100000, .i32⟩
  | 43 => ⟨S100000, .i32⟩
  | 44 => ⟨S_, .i32⟩
  | 45 => ⟨S100000, .i32⟩
  | 46 => ⟨S100000, .i1⟩
  | 47 => ⟨S100000, .i1⟩
  | 48 => ⟨S_, .i32⟩
  | 49 => ⟨S100000, .i32⟩
  | 50 => ⟨S100000, .i32⟩
  | 51 => ⟨S100000, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S100000, .i32⟩
  | 59 => ⟨S100000, .i32⟩
  | 60 => ⟨S_, .i32⟩
  | 61 => ⟨S100000, .i32⟩
  | 62 => ⟨S100000, .i1⟩
  | 63 => ⟨S_, .i32⟩
  | 64 => ⟨S100000, .i32⟩
  | 65 => ⟨S100000, .i1⟩
  | 66 => ⟨S_, .i32⟩
  | 67 => ⟨S_, .i1⟩
  | 68 => ⟨S100000, .i1⟩
  | 69 => ⟨S100000, .i1⟩
  | 70 => ⟨S100000, .i1⟩
  | 71 => ⟨S100000, .i32⟩
  | 72 => ⟨S100000, .i32⟩
  | 73 => ⟨S100000, .i32⟩
  | 74 => ⟨S100000x1, .i32⟩
  | 75 => ⟨S_, .i32⟩
  | 76 => ⟨S100000x1, .i32⟩
  | 77 => ⟨S100000x1, .i1⟩
  | 78 => ⟨S_, .i32⟩
  | 79 => ⟨S100000x1, .i32⟩
  | 80 => ⟨S100000x1, .i32⟩
  | 81 => ⟨S100000x1, .i32⟩
  | 82 => ⟨S100000x1x1, .i32⟩
  | 83 => ⟨S1, .i32⟩
  | 84 => ⟨S_, .i32⟩
  | 85 => ⟨S100000x1x1, .i32⟩
  | 86 => ⟨S100000x1x1, .i1⟩
  | 87 => ⟨S1x1x1, .i32⟩
  | 88 => ⟨S100000x1x1, .i32⟩
  | 89 => ⟨S100000x1x1, .i1⟩
  | 90 => ⟨S100000x1x1, .i1⟩
  | 91 => ⟨S_, .i1⟩
  | 92 => ⟨S100000x1, .i1⟩
  | 93 => ⟨S100000x1, .i32⟩
  | 94 => ⟨S_, .i32⟩
  | 95 => ⟨S100000x1, .i32⟩
  | 96 => ⟨S100000x1, .i32⟩
  | 97 => ⟨S100000, .i32⟩
  | 98 => ⟨S100000x1, .i32⟩
  | 99 => ⟨S_, .i32⟩
  | 100 => ⟨S100000x1, .i32⟩
  | 101 => ⟨S100000x1, .i1⟩
  | 102 => ⟨S_, .i32⟩
  | 103 => ⟨S100000x1, .i32⟩
  | 104 => ⟨S100000x1, .i32⟩
  | 105 => ⟨S100000x1, .i32⟩
  | 106 => ⟨S100000x1x1, .i32⟩
  | 107 => ⟨S1, .i32⟩
  | 108 => ⟨S_, .i32⟩
  | 109 => ⟨S100000x1x1, .i32⟩
  | 110 => ⟨S100000x1x1, .i1⟩
  | 111 => ⟨S1x1x1, .i32⟩
  | 112 => ⟨S100000x1x1, .i32⟩
  | 113 => ⟨S100000x1x1, .i1⟩
  | 114 => ⟨S100000x1x1, .i1⟩
  | 115 => ⟨S_, .i1⟩
  | 116 => ⟨S100000x1, .i1⟩
  | 117 => ⟨S100000x1, .i32⟩
  | 118 => ⟨S_, .i32⟩
  | 119 => ⟨S100000x1, .i32⟩
  | 120 => ⟨S100000x1, .i32⟩
  | 121 => ⟨S100000, .i32⟩
  | 122 => ⟨S100000, .i32⟩
  | 123 => ⟨S300000, .i32⟩
  | 124 => ⟨S300000, .i32⟩
  | 125 => ⟨S_, .f32⟩
  | 126 => ⟨S100000, .f32⟩
  | 127 => ⟨S_, .i32⟩
  | _ => ⟨S100000x128, .f32⟩

abbrev hbmTy0_1 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S300000x1, .i32⟩
  | 7 => ⟨S_, .f32⟩
  | 8 => ⟨S300000, .f32⟩
  | 9 => ⟨S100000, .f32⟩
  | 10 => ⟨S_, .f32⟩
  | 11 => ⟨S100000, .f32⟩
  | 12 => ⟨S100000, .f32⟩
  | 13 => ⟨S100000, .f32⟩
  | 14 => ⟨S_, .i32⟩
  | 15 => ⟨S300000, .i32⟩
  | 16 => ⟨S300000, .i1⟩
  | 17 => ⟨S_, .i32⟩
  | 18 => ⟨S300000, .i32⟩
  | 19 => ⟨S300000, .i32⟩
  | 20 => ⟨S300000, .i32⟩
  | 21 => ⟨S300000x1, .i32⟩
  | 22 => ⟨S300000, .f32⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S300000x1, .i32⟩
  | 31 => ⟨S300000, .f32⟩
  | 32 => ⟨S300000, .f32⟩
  | 33 => ⟨S100000x128, .f32⟩
  | 34 => ⟨S1x128, .f32⟩
  | 35 => ⟨S100000x128, .f32⟩
  | 36 => ⟨S100000x128, .f32⟩
  | 37 => ⟨S_, .i32⟩
  | 38 => ⟨S300000, .i32⟩
  | 39 => ⟨S300000, .i1⟩
  | 40 => ⟨S_, .i32⟩
  | 41 => ⟨S300000, .i32⟩
  | 42 => ⟨S300000, .i32⟩
  | 43 => ⟨S300000, .i32⟩
  | 44 => ⟨S300000x1, .i32⟩
  | 45 => ⟨S300000x128, .f32⟩
  | 46 => ⟨S300000x1, .f32⟩
  | 47 => ⟨S300000x128, .f32⟩
  | 48 => ⟨S300000x128, .f32⟩
  | 49 => ⟨S_, .f32⟩
  | 50 => ⟨S100000x128, .f32⟩
  | 51 => ⟨S_, .i32⟩
  | 52 => ⟨S300000, .i32⟩
  | 53 => ⟨S300000, .i1⟩
  | 54 => ⟨S_, .i32⟩
  | 55 => ⟨S300000, .i32⟩
  | 56 => ⟨S300000, .i32⟩
  | 57 => ⟨S300000, .i32⟩
  | 58 => ⟨S300000x1, .i32⟩
  | 59 => ⟨S100000x128, .f32⟩
  | 60 => ⟨S_, .f32⟩
  | 61 => ⟨S100000x128, .f32⟩
  | 62 => ⟨S100000x128, .f32⟩
  | 63 => ⟨S100000x64, .f32⟩
  | 64 => ⟨S1x64, .f32⟩
  | 65 => ⟨S100000x64, .f32⟩
  | 66 => ⟨S100000x64, .f32⟩
  | 67 => ⟨S_, .i32⟩
  | 68 => ⟨S300000, .i32⟩
  | 69 => ⟨S300000, .i1⟩
  | 70 => ⟨S_, .i32⟩
  | 71 => ⟨S300000, .i32⟩
  | 72 => ⟨S300000, .i32⟩
  | 73 => ⟨S300000, .i32⟩
  | 74 => ⟨S300000x1, .i32⟩
  | 75 => ⟨S300000x64, .f32⟩
  | 76 => ⟨S300000x1, .f32⟩
  | 77 => ⟨S300000x64, .f32⟩
  | 78 => ⟨S300000x64, .f32⟩
  | 79 => ⟨S_, .f32⟩
  | 80 => ⟨S100000x64, .f32⟩
  | 81 => ⟨S_, .i32⟩
  | 82 => ⟨S300000, .i32⟩
  | 83 => ⟨S300000, .i1⟩
  | 84 => ⟨S_, .i32⟩
  | 85 => ⟨S300000, .i32⟩
  | 86 => ⟨S300000, .i32⟩
  | 87 => ⟨S300000, .i32⟩
  | 88 => ⟨S300000x1, .i32⟩
  | 89 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v19 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v20 : Ref sig .tc := ⟨.hbm, 51, rfl⟩
abbrev main_c_3 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v21 : Ref sig .tc := ⟨.hbm, 73, rfl⟩
abbrev main_v22 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_c_4 : Ref sig .tc := ⟨.hbm, 94, rfl⟩
abbrev main_call3_v14 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_c_4 : Ref sig .tc := ⟨.hbm, 118, rfl⟩
abbrev main_call4_v14 : Ref sig .tc := ⟨.hbm, 119, rfl⟩
abbrev main_v26 : Ref sig .tc := ⟨.hbm, 120, rfl⟩
abbrev main_v27 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_cst_4 : Ref sig .tc := ⟨.hbm, 125, rfl⟩
abbrev main_v31 : Ref sig .tc := ⟨.hbm, 126, rfl⟩
abbrev main_c_5 : Ref sig .tc := ⟨.hbm, 127, rfl⟩
abbrev main_v32 : Ref sig .tc := ⟨.hbm, 128, rfl⟩
abbrev main_v33 : Ref sig .tc := ⟨.hbm, 129, rfl⟩
abbrev main_c_6 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_cst_7 : Ref sig .tc := ⟨.hbm, 135, rfl⟩
abbrev main_v38 : Ref sig .tc := ⟨.hbm, 136, rfl⟩
abbrev main_v39 : Ref sig .tc := ⟨.hbm, 137, rfl⟩
abbrev main_cst_8 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_c_9 : Ref sig .tc := ⟨.hbm, 142, rfl⟩
abbrev main_v43 : Ref sig .tc := ⟨.hbm, 143, rfl⟩
abbrev main_v44 : Ref sig .tc := ⟨.hbm, 144, rfl⟩
abbrev main_c_10 : Ref sig .tc := ⟨.hbm, 145, rfl⟩
abbrev main_v45 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_c_11 : Ref sig .tc := ⟨.hbm, 151, rfl⟩
abbrev main_v50 : Ref sig .tc := ⟨.hbm, 152, rfl⟩
abbrev main_v51 : Ref sig .tc := ⟨.hbm, 153, rfl⟩
abbrev main_c_12 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩
abbrev main_v58 : Ref sig .tc := ⟨.hbm, 161, rfl⟩
abbrev main_v59 : Ref sig .tc := ⟨.hbm, 162, rfl⟩
abbrev main_v60 : Ref sig .tc := ⟨.hbm, 163, rfl⟩
abbrev main_v61 : Ref sig .tc := ⟨.hbm, 164, rfl⟩
abbrev main_c_13 : Ref sig .tc := ⟨.hbm, 165, rfl⟩
abbrev main_v62 : Ref sig .tc := ⟨.hbm, 166, rfl⟩
abbrev main_v63 : Ref sig .tc := ⟨.hbm, 167, rfl⟩
abbrev main_c_14 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_cst_15 : Ref sig .tc := ⟨.hbm, 177, rfl⟩
abbrev main_v72 : Ref sig .tc := ⟨.hbm, 178, rfl⟩
abbrev main_c_16 : Ref sig .tc := ⟨.hbm, 179, rfl⟩
abbrev main_v73 : Ref sig .tc := ⟨.hbm, 180, rfl⟩
abbrev main_v74 : Ref sig .tc := ⟨.hbm, 181, rfl⟩
abbrev main_c_17 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_call5_cst : Ref sig .tc := ⟨.hbm, 188, rfl⟩
abbrev main_call5_v0 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_c_18 : Ref sig .tc := ⟨.hbm, 195, rfl⟩
abbrev main_v85 : Ref sig .tc := ⟨.hbm, 196, rfl⟩
abbrev main_v86 : Ref sig .tc := ⟨.hbm, 197, rfl⟩
abbrev main_c_19 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_v90 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩
abbrev main_v94 : Ref sig .tc := ⟨.hbm, 206, rfl⟩
abbrev main_cst_20 : Ref sig .tc := ⟨.hbm, 207, rfl⟩
abbrev main_v95 : Ref sig .tc := ⟨.hbm, 208, rfl⟩
abbrev main_c_21 : Ref sig .tc := ⟨.hbm, 209, rfl⟩
abbrev main_v96 : Ref sig .tc := ⟨.hbm, 210, rfl⟩
abbrev main_v97 : Ref sig .tc := ⟨.hbm, 211, rfl⟩
abbrev main_c_22 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩

abbrev nD : Nat := 1
abbrev τ : Topo := Topo.v7x

variable {F : FTy → Type} [FloatOps F]
-- ==== Proof.KernelRun.lean ====
/- The kernel's run with its result. The generated certificate runs the program's sixteen segments and keeps of the final memory only the
   argument arrays; here the same launch keeps every buffer that is not scoped, at its contents after the last segment. -/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding definitions in a metavariable's type
set_option backward.isDefEq.respectTransparency.types false in
/-- From any memory with zero counters every weakly fair execution of the kernel's program terminates without a fault, and every final state
    has each unscoped buffer at its contents after the last segment. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W16 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun _ h _ => h)

/-- In particular the result and the six arguments. -/
theorem run_value : θ_run defs (onTc (τ := τ) (main (F := F))) ⟨m, fun _ => 0, ρ⟩ (fun r => ∀ c : Dev nD,
    r.2.mem ((c.tc : Thread nD τ).loc main_v109) = W16 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v109 (by decide)),
     (h c _ (mem_uc main_arg0 (by decide))).trans (W16_main_arg0 m ρ c), (h c _ (mem_uc main_arg1 (by decide))).trans (W16_main_arg1 m ρ c),
     (h c _ (mem_uc main_arg2 (by decide))).trans (W16_main_arg2 m ρ c), (h c _ (mem_uc main_arg3 (by decide))).trans (W16_main_arg3 m ρ c),
     (h c _ (mem_uc main_arg4 (by decide))).trans (W16_main_arg4 m ρ c), (h c _ (mem_uc main_arg5 (by decide))).trans (W16_main_arg5 m ρ c)⟩) (run_all m ρ)

end Cert.Proof.KernelRun

end
-- ==== Proof.Blocks.lean ====
/- What the kernel's three pipelines leave in their result arrays, at the ideal instance.
   Each runs over 100 grid points; point `t` reads rows `1000 t … 1000 t + 999` of its row arrays and the whole of its small arrays, and
   writes those rows of the result. A payload at an index is a plain formula (`pay1_apply` …), the formula of the blocks is the block of the
   formula of the arrays (`flushed0` …), and the blocks cover the array, so the result array ends as that formula of the arrays the
   pipeline found (`region0`, `region1`, `region2`). -/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Proof.Blocks

open Cert.KernelIdeal Cert.KernelIdeal.Gen
open Idealize.ShloMosaic Idealize.ShloMosaic.TcCoe Idealize.SL.Sem
open Idealize.ShloMosaic.Pipeline (Dat)

/-! ## The whole-array formulas -/

/-- A linear layer scaled row by row: `(x · w + b) * s`. -/
def linScale {C : ℕ} (x : FVec Ideal S100000x128 .f32) (w : FVec Ideal ⟨2, ![128, C]⟩ .f32) (b : FVec Ideal ⟨2, ![1, C]⟩ .f32)
    (s : FVec Ideal S100000x1 .f32) : FVec Ideal ⟨2, ![100000, C]⟩ .f32 := fun i =>
  (((∑ k : Fin 128, (x (ix2 (i 0) k) : EReal) * (w (ix2 k (i 1)) : EReal)) + (b (ix2 0 (i 1)) : EReal)) * (s (ix2 (i 0) 0) : EReal) : EReal)

/-- The rectified, row-scaled input of the second layer: `max (x * s) 0`. -/
def reluScale (x : FVec Ideal S100000x128 .f32) (s : FVec Ideal S100000x1 .f32) : FVec Ideal S100000x128 .f32 := fun i =>
  (max ((x i : EReal) * (s (ix2 (i 0) 0) : EReal)) 0 : EReal)

/-- Rows scaled: `x * s`. -/
def rowScale (x : FVec Ideal S100000x64 .f32) (s : FVec Ideal S100000x1 .f32) : FVec Ideal S100000x64 .f32 := fun i =>
  ((x i : EReal) * (s (ix2 (i 0) 0) : EReal) : EReal)

/-- A scaled linear layer at a row and a column, from what its arrays hold there. -/
theorem linScale_of {C : ℕ} (x : FVec Ideal S100000x128 .f32) (w : FVec Ideal ⟨2, ![128, C]⟩ .f32) (b : FVec Ideal ⟨2, ![1, C]⟩ .f32)
    (s : FVec Ideal S100000x1 .f32) (v : Fin 100000) (j : Fin C) {x' w' : Fin 128 → EReal} {b' s' : EReal}
    (hx : ∀ k, (x (ix2 v k) : EReal) = x' k) (hw : ∀ k, (w (ix2 k j) : EReal) = w' k) (hb : (b (ix2 0 j) : EReal) = b') (hs : (s (ix2 v 0) : EReal) = s') :
    (linScale x w b s (ix2 v j) : EReal) = ((∑ k : Fin 128, x' k * w' k) + b') * s' := by
  rw [← hb, ← hs, ← funext hx, ← funext hw]
  rfl

/-- A rectified scaled row at a column. -/
theorem reluScale_of (x : FVec Ideal S100000x128 .f32) (s : FVec Ideal S100000x1 .f32) (v : Fin 100000) (k : Fin 128) {x' s' : EReal}
    (hx : (x (ix2 v k) : EReal) = x') (hs : (s (ix2 v 0) : EReal) = s') : (reluScale x s (ix2 v k) : EReal) = max (x' * s') 0 := by
  rw [← hx, ← hs]
  rfl

/-- A scaled row at a column. -/
theorem rowScale_of (x : FVec Ideal S100000x64 .f32) (s : FVec Ideal S100000x1 .f32) (v : Fin 100000) (j : Fin 64) {x' s' : EReal}
    (hx : (x (ix2 v j) : EReal) = x') (hs : (s (ix2 v 0) : EReal) = s') : (rowScale x s (ix2 v j) : EReal) = x' * s' := by
  rw [← hx, ← hs]
  rfl

/-! ## The payloads at an index -/

/-- The first pipeline's stored block. -/
theorem pay1_apply (x : FVec Ideal S1000x128 .f32) (w : FVec Ideal S128x128 .f32) (b : FVec Ideal S1x128 .f32) (s : FVec Ideal S1000x1 .f32)
    (y : S1000x128.Idx) :
    (k0_pay1 (F := Ideal) x w b s y : EReal)
      = ((∑ k : Fin 128, (x (ix2 (y 0) k) : EReal) * (w (ix2 k (y 1)) : EReal)) + (b (ix2 0 (y 1)) : EReal)) * (s (ix2 (y 0) 0) : EReal) := by
  pointwise [k0_pay1]

/-- The second pipeline's stored block. -/
theorem pay2_apply (x : FVec Ideal S1000x128 .f32) (s : FVec Ideal S1000x1 .f32) (w : FVec Ideal S128x64 .f32) (b : FVec Ideal S1x64 .f32)
    (y : S1000x64.Idx) :
    (k1_pay1 (F := Ideal) x s w b s y : EReal)
      = ((∑ k : Fin 128, max ((x (ix2 (y 0) k) : EReal) * (s (ix2 (y 0) 0) : EReal)) 0 * (w (ix2 k (y 1)) : EReal)) + (b (ix2 0 (y 1)) : EReal))
          * (s (ix2 (y 0) 0) : EReal) := by
  pointwise [k1_pay1]

/-- The third pipeline's stored block. -/
theorem pay3_apply (x : FVec Ideal S1000x64 .f32) (s : FVec Ideal S1000x1 .f32) (y : S1000x64.Idx) :
    (k2_pay1 (F := Ideal) x s y : EReal) = (x y : EReal) * (s (ix2 (y 0) 0) : EReal) := by
  pointwise [k2_pay1]

/-! ## The blocks -/

/-- The block numbers of the first pipeline's windows at point `t`: the row arrays' is `t`, the small arrays' is the whole. -/
theorem index0 : ∀ t : Fin cfg0.N,
    win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- The second pipeline's. -/
theorem index1 : ∀ t : Fin cfg1.N,
    win1_0.index t = ![t.val, 0] ∧ win1_1.index t = ![0, 0] ∧ win1_2.index t = ![0, 0] ∧ win1_3.index t = ![t.val, 0] ∧ win1_4.index t = ![t.val, 0] :=
  (by decide +kernel : ∀ t : Fin grid1.N, _)

/-- The third pipeline's. -/
theorem index2 : ∀ t : Fin cfg2.N, win2_0.index t = ![t.val, 0] ∧ win2_1.index t = ![t.val, 0] ∧ win2_2.index t = ![t.val, 0] :=
  (by decide +kernel : ∀ t : Fin grid2.N, _)

/-- Row `y` of block `n < 100` as a row of the array. -/
def rowOf (n : ℕ) (hn : n < 100) (y : Fin 1000) : Fin 100000 := ⟨n * 1000 + y.val, by have := y.isLt; omega⟩

theorem lt0 (t : Fin cfg0.N) : t.val < 100 := lt_of_lt_of_eq t.isLt N_0
theorem lt1 (t : Fin cfg1.N) : t.val < 100 := lt_of_lt_of_eq t.isLt N_1
theorem lt2 (t : Fin cfg2.N) : t.val < 100 := lt_of_lt_of_eq t.isLt N_2

/-- An array at an index known by its two coordinates. -/
theorem at_ix2 {α : Type} {N C : ℕ} (f : (⟨2, ![N, C]⟩ : Shape).Idx → α) (i : (⟨2, ![N, C]⟩ : Shape).Idx) (r : Fin N) (k : Fin C)
    (h0 : (i 0).val = r.val) (h1 : (i 1).val = k.val) : f i = f (ix2 r k) :=
  congrArg f (funext fun a => Fin.ext (match a with | ⟨0, _⟩ => h0 | ⟨1, _⟩ => h1))

/-- Arithmetic of a block read: block number `n` times block size, plus the coordinate within. -/
theorem coord {i n s y : ℕ} (h : i = n) : i * s + 1 * y = n * s + y := by rw [h, one_mul]
theorem coord_zero {i s y : ℕ} (h : i = 0) : i * s + 1 * y = y := by rw [h]; omega

/-- Row `i` is within block `i / 1000`. -/
theorem within {i n t : ℕ} (h : n = t) (ht : t = i / 1000) : n * 1000 ≤ i ∧ i < n * 1000 + 1000 := by omega
/-- A coordinate is within the one block its axis has. -/
theorem within_zero {i n s : ℕ} (h : n = 0) (hi : i < s) : n * s ≤ i ∧ i < n * s + s := by rw [h]; omega

section Regions

variable (V : (c : Dev nD) → (b : Ref sig .tc) → Buf (Elt Ideal) ((c : Thread nD τ).loc b)) (c : Dev nD)

/-! ### The first pipeline -/

theorem blk0_0 (t : Fin cfg0.N) (y : S1000x128.Idx) :
    iblk0 V c 0 t y = (V c main_arg0 : FVec Ideal S100000x128 .f32) (ix2 (rowOf t.val (lt0 t) (y 0)) (y 1)) :=
  at_ix2 (V c main_arg0 : FVec Ideal S100000x128 .f32) _ _ _ (coord (congrFun (index0 t).1 0)) (coord_zero (congrFun (index0 t).1 1))
theorem blk0_1 (t : Fin cfg0.N) (y : S128x128.Idx) :
    iblk0 V c 1 t y = (V c main_arg2 : FVec Ideal S128x128 .f32) (ix2 (y 0) (y 1)) :=
  at_ix2 (V c main_arg2 : FVec Ideal S128x128 .f32) _ _ _ (coord_zero (congrFun (index0 t).2.1 0)) (coord_zero (congrFun (index0 t).2.1 1))
theorem blk0_2 (t : Fin cfg0.N) (y : S1x128.Idx) :
    iblk0 V c 2 t y = (V c main_v46 : FVec Ideal S1x128 .f32) (ix2 (y 0) (y 1)) :=
  at_ix2 (V c main_v46 : FVec Ideal S1x128 .f32) _ _ _ (coord_zero (congrFun (index0 t).2.2.1 0)) (coord_zero (congrFun (index0 t).2.2.1 1))
theorem blk0_3 (t : Fin cfg0.N) (y : S1000x1.Idx) :
    iblk0 V c 3 t y = (V c main_v47 : FVec Ideal S100000x1 .f32) (ix2 (rowOf t.val (lt0 t) (y 0)) (y 1)) :=
  at_ix2 (V c main_v47 : FVec Ideal S100000x1 .f32) _ _ _ (coord (congrFun (index0 t).2.2.2.1 0)) (coord_zero (congrFun (index0 t).2.2.2.1 1))

theorem hz : (![0, 0] : Fin 2 → Nat) = fun _ => 0 := funext fun a => by fin_cases a <;> rfl

/-- What the first pipeline leaves: the first linear layer, scaled. -/
abbrev G0 : Buf (Elt Ideal) ((c : Thread nD τ).loc main_v48) :=
  linScale (V c main_arg0 : FVec Ideal S100000x128 .f32) (V c main_arg2 : FVec Ideal S128x128 .f32) (V c main_v46 : FVec Ideal S1x128 .f32)
    (V c main_v47 : FVec Ideal S100000x1 .f32)

/-- What point `t` writes back is its block of that. -/
theorem flushed0 (t : Fin cfg0.N) : (dat0 V c).flushed 4 t = (win0_4.blk t).view.read (Elt Ideal) (G0 V c) := by
  show (cfg0.win 4).cut (grid0.coords t) ((dat0 V c).after 4 t) = _
  rw [after0_4]
  unfold out0_4
  rw [View.canon_unit_zero hz, View.ld_unit_zero hz, View.ld_unit_zero hz, View.ld_unit_zero hz, View.ld_unit_zero hz]
  funext y
  refine (pay1_apply (iblk0 V c 0 t) (iblk0 V c 1 t) (iblk0 V c 2 t) (iblk0 V c 3 t) y).trans ?_
  refine Eq.trans ?_ (at_ix2 (G0 V c : FVec Ideal S100000x128 .f32) _ (rowOf t.val (lt0 t) (y 0)) (y 1)
    (coord (congrFun (index0 t).2.2.2.2 0)) (coord_zero (congrFun (index0 t).2.2.2.2 1))).symm
  simp only [blk0_0, blk0_1, blk0_2, blk0_3]
  rfl

/-- The blocks cover the array: row `r` is in block `r / 1000`. -/
theorem cover0 (i : S100000x128.Idx) : ∃ t : Fin cfg0.N, (cfg0.win 4).flush t = true ∧ i ∈ ((cfg0.win 4).blk t).view.set := by
  have h0 : (i 0).val < 100000 := (i 0).isLt
  have h1 : (i 1).val < 128 := (i 1).isLt
  obtain ⟨t, ht⟩ : ∃ t : Fin cfg0.N, t.val = (i 0).val / 1000 := ⟨⟨(i 0).val / 1000, by have h : cfg0.N = 100 := N_0; omega⟩, rfl⟩
  refine ⟨t, flush0_4 _, ?_⟩
  show i ∈ ((View.whole main_v48).slice (win0_4.rect t)).set
  rw [View.set_slice_whole, Rect.mem_set_unit]
  have e := (index0 t).2.2.2.2
  intro a
  match a with
  | ⟨0, _⟩ => exact within (congrFun e 0) ht
  | ⟨1, _⟩ => exact within_zero (congrFun e 1) h1

/-- The first pipeline's result array after the run. -/
theorem region0 : (dat0 V c).arrAt 4 cfg0.N = G0 V c :=
  (dat0 V c).arrAt_eq_of_cover 4 (G0 V c) (fun t _ => flushed0 V c t) cover0

/-! ### The second pipeline -/

theorem blk1_0 (t : Fin cfg1.N) (y : S1000x128.Idx) :
    iblk1 V c 0 t y = (V c main_v76 : FVec Ideal S100000x128 .f32) (ix2 (rowOf t.val (lt1 t) (y 0)) (y 1)) :=
  at_ix2 (V c main_v76 : FVec Ideal S100000x128 .f32) _ _ _ (coord (congrFun (index1 t).1 0)) (coord_zero (congrFun (index1 t).1 1))
theorem blk1_1 (t : Fin cfg1.N) (y : S128x64.Idx) :
    iblk1 V c 1 t y = (V c main_arg4 : FVec Ideal S128x64 .f32) (ix2 (y 0) (y 1)) :=
  at_ix2 (V c main_arg4 : FVec Ideal S128x64 .f32) _ _ _ (coord_zero (congrFun (index1 t).2.1 0)) (coord_zero (congrFun (index1 t).2.1 1))
theorem blk1_2 (t : Fin cfg1.N) (y : S1x64.Idx) :
    iblk1 V c 2 t y = (V c main_v77 : FVec Ideal S1x64 .f32) (ix2 (y 0) (y 1)) :=
  at_ix2 (V c main_v77 : FVec Ideal S1x64 .f32) _ _ _ (coord_zero (congrFun (index1 t).2.2.1 0)) (coord_zero (congrFun (index1 t).2.2.1 1))
theorem blk1_3 (t : Fin cfg1.N) (y : S1000x1.Idx) :
    iblk1 V c 3 t y = (V c main_v78 : FVec Ideal S100000x1 .f32) (ix2 (rowOf t.val (lt1 t) (y 0)) (y 1)) :=
  at_ix2 (V c main_v78 : FVec Ideal S100000x1 .f32) _ _ _ (coord (congrFun (index1 t).2.2.2.1 0)) (coord_zero (congrFun (index1 t).2.2.2.1 1))

/-- What the second pipeline leaves: the second linear layer of the rectified scaled rows, scaled. -/
abbrev G1 : Buf (Elt Ideal) ((c : Thread nD τ).loc main_v79) :=
  linScale (reluScale (V c main_v76 : FVec Ideal S100000x128 .f32) (V c main_v78 : FVec Ideal S100000x1 .f32))
    (V c main_arg4 : FVec Ideal S128x64 .f32) (V c main_v77 : FVec Ideal S1x64 .f32) (V c main_v78 : FVec Ideal S100000x1 .f32)

/-- What point `t` writes back is its block of that. -/
theorem flushed1 (t : Fin cfg1.N) : (dat1 V c).flushed 4 t = (win1_4.blk t).view.read (Elt Ideal) (G1 V c) := by
  show (cfg1.win 4).cut (grid1.coords t) ((dat1 V c).after 4 t) = _
  rw [after1_4]
  unfold out1_4
  rw [View.canon_unit_zero hz, View.ld_unit_zero hz, View.ld_unit_zero hz, View.ld_unit_zero hz, View.ld_unit_zero hz]
  funext y
  refine (pay2_apply (iblk1 V c 0 t) (iblk1 V c 3 t) (iblk1 V c 1 t) (iblk1 V c 2 t) y).trans ?_
  refine Eq.trans ?_ (at_ix2 (G1 V c : FVec Ideal S100000x64 .f32) _ (rowOf t.val (lt1 t) (y 0)) (y 1)
    (coord (congrFun (index1 t).2.2.2.2 0)) (coord_zero (congrFun (index1 t).2.2.2.2 1))).symm
  simp only [blk1_0, blk1_1, blk1_2, blk1_3]
  rfl

theorem cover1 (i : S100000x64.Idx) : ∃ t : Fin cfg1.N, (cfg1.win 4).flush t = true ∧ i ∈ ((cfg1.win 4).blk t).view.set := by
  have h0 : (i 0).val < 100000 := (i 0).isLt
  have h1 : (i 1).val < 64 := (i 1).isLt
  obtain ⟨t, ht⟩ : ∃ t : Fin cfg1.N, t.val = (i 0).val / 1000 := ⟨⟨(i 0).val / 1000, by have h : cfg1.N = 100 := N_1; omega⟩, rfl⟩
  refine ⟨t, flush1_4 _, ?_⟩
  show i ∈ ((View.whole main_v79).slice (win1_4.rect t)).set
  rw [View.set_slice_whole, Rect.mem_set_unit]
  have e := (index1 t).2.2.2.2
  intro a
  match a with
  | ⟨0, _⟩ => exact within (congrFun e 0) ht
  | ⟨1, _⟩ => exact within_zero (congrFun e 1) h1

/-- The second pipeline's result array after the run. -/
theorem region1 : (dat1 V c).arrAt 4 cfg1.N = G1 V c :=
  (dat1 V c).arrAt_eq_of_cover 4 (G1 V c) (fun t _ => flushed1 V c t) cover1

/-! ### The third pipeline -/

theorem blk2_0 (t : Fin cfg2.N) (y : S1000x64.Idx) :
    iblk2 V c 0 t y = (V c main_v107 : FVec Ideal S100000x64 .f32) (ix2 (rowOf t.val (lt2 t) (y 0)) (y 1)) :=
  at_ix2 (V c main_v107 : FVec Ideal S100000x64 .f32) _ _ _ (coord (congrFun (index2 t).1 0)) (coord_zero (congrFun (index2 t).1 1))
theorem blk2_1 (t : Fin cfg2.N) (y : S1000x1.Idx) :
    iblk2 V c 1 t y = (V c main_v108 : FVec Ideal S100000x1 .f32) (ix2 (rowOf t.val (lt2 t) (y 0)) (y 1)) :=
  at_ix2 (V c main_v108 : FVec Ideal S100000x1 .f32) _ _ _ (coord (congrFun (index2 t).2.1 0)) (coord_zero (congrFun (index2 t).2.1 1))

/-- What the third pipeline leaves: its rows scaled. -/
abbrev G2 : Buf (Elt Ideal) ((c : Thread nD τ).loc main_v109) :=
  rowScale (V c main_v107 : FVec Ideal S100000x64 .f32) (V c main_v108 : FVec Ideal S100000x1 .f32)

/-- What point `t` writes back is its block of that. -/
theorem flushed2 (t : Fin cfg2.N) : (dat2 V c).flushed 2 t = (win2_2.blk t).view.read (Elt Ideal) (G2 V c) := by
  show (cfg2.win 2).cut (grid2.coords t) ((dat2 V c).after 2 t) = _
  rw [after2_2]
  unfold out2_2
  rw [View.canon_unit_zero hz, View.ld_unit_zero hz, View.ld_unit_zero hz]
  funext y
  refine (pay3_apply (iblk2 V c 0 t) (iblk2 V c 1 t) y).trans ?_
  refine Eq.trans ?_ (at_ix2 (G2 V c : FVec Ideal S100000x64 .f32) _ (rowOf t.val (lt2 t) (y 0)) (y 1)
    (coord (congrFun (index2 t).2.2 0)) (coord_zero (congrFun (index2 t).2.2 1))).symm
  simp only [blk2_0, blk2_1]
  rfl

theorem cover2 (i : S100000x64.Idx) : ∃ t : Fin cfg2.N, (cfg2.win 2).flush t = true ∧ i ∈ ((cfg2.win 2).blk t).view.set := by
  have h0 : (i 0).val < 100000 := (i 0).isLt
  have h1 : (i 1).val < 64 := (i 1).isLt
  obtain ⟨t, ht⟩ : ∃ t : Fin cfg2.N, t.val = (i 0).val / 1000 := ⟨⟨(i 0).val / 1000, by have h : cfg2.N = 100 := N_2; omega⟩, rfl⟩
  refine ⟨t, flush2_2 _, ?_⟩
  show i ∈ ((View.whole main_v109).slice (win2_2.rect t)).set
  rw [View.set_slice_whole, Rect.mem_set_unit]
  have e := (index2 t).2.2
  intro a
  match a with
  | ⟨0, _⟩ => exact within (congrFun e 0) ht
  | ⟨1, _⟩ => exact within_zero (congrFun e 1) h1

/-- The third pipeline's result array after the run. -/
theorem region2 : (dat2 V c).arrAt 2 cfg2.N = G2 V c :=
  (dat2 V c).arrAt_eq_of_cover 2 (G2 V c) (fun t _ => flushed2 V c t) cover2

end Regions

end Cert.Proof.Blocks

end
-- ==== Proof.Layer.lean ====
/- The equation of one graph layer, over any finite sets of nodes and edges, in the extended reals.
   The kernel scales each node's row by its factor, adds the scaled rows along the edges (both ways, and the node's own), and scales the
   sum by the factor again. The reference adds the unscaled rows, each times the product of the factors of the edge's two ends. The two
   agree because the factors are finite and nonnegative: such a factor distributes over any sum of extended reals (`scaled_sum_eq`). -/
module

public import Idealize.ShloMosaic.PureOps.Ideal
public import Mathlib.Data.EReal.Operations

@[expose] public section

noncomputable section

namespace Cert.Proof.Layer

open Idealize.ShloMosaic

/-- A finite nonnegative factor distributes over a sum of two. -/
theorem add_mul_coe (a b : EReal) {r : ℝ} (hr : 0 ≤ r) : (a + b) * (r : EReal) = a * r + b * r :=
  EReal.right_distrib_of_nonneg_of_ne_top (EReal.coe_nonneg.2 hr) (EReal.coe_ne_top r) a b

/-- A finite nonnegative factor distributes over a finite sum. -/
theorem sum_mul_coe {E : Type} [Fintype E] (f : E → EReal) {r : ℝ} (hr : 0 ≤ r) : (∑ e, f e) * (r : EReal) = ∑ e, f e * r := by
  classical
  induction (Finset.univ : Finset E) using Finset.induction_on with
  | empty => simp
  | insert a s ha ih => rw [Finset.sum_insert ha, Finset.sum_insert ha, add_mul_coe _ _ hr, ih]

/-- The number of edges that satisfy a condition, counted as a sum of ones, is a nonnegative real. -/
theorem count_real {E : Type} [Fintype E] (p : E → Prop) [DecidablePred p] : ∃ r : ℝ, 0 ≤ r ∧ (∑ e, if p e then (1 : EReal) else 0) = r := by
  classical
  induction (Finset.univ : Finset E) using Finset.induction_on with
  | empty => exact ⟨0, le_refl _, by simp⟩
  | insert a s ha ih =>
    obtain ⟨r, hr, e⟩ := ih
    rw [Finset.sum_insert ha, e]
    by_cases h : p a
    · exact ⟨1 + r, by positivity, by rw [if_pos h]; norm_cast⟩
    · exact ⟨r, hr, by rw [if_neg h, zero_add]⟩

section Count

variable {N E : Type} [Fintype E] (tS tD : E → N → Prop) [∀ e v, Decidable (tS e v)] [∀ e v, Decidable (tD e v)]

/-- A node's degree: itself, the edges it is the source of, and the edges it is the target of. -/
def degree (v : N) : EReal := (1 + ∑ e, if tS e v then 1 else 0) + ∑ e, if tD e v then 1 else 0

/-- A degree is a real number that is at least one. -/
theorem degree_real (v : N) : ∃ r : ℝ, 1 ≤ r ∧ degree tS tD v = r := by
  obtain ⟨a, ha, ea⟩ := count_real fun e => tS e v
  obtain ⟨b, hb, eb⟩ := count_real fun e => tD e v
  refine ⟨1 + a + b, by linarith, ?_⟩
  unfold degree
  rw [ea, eb]
  norm_cast

/-- So the bound below by one changes nothing. -/
theorem max_degree (v : N) : max (degree tS tD v) 1 = degree tS tD v := by
  obtain ⟨r, hr, e⟩ := degree_real tS tD v
  rw [e]
  exact max_eq_left (by exact_mod_cast hr)

/-- A node's factor: the reciprocal square root of its degree. -/
def factor (v : N) : EReal := Ideal.rsqrt (degree tS tD v)

/-- A factor is a nonnegative real number. -/
theorem factor_real (v : N) : ∃ r : ℝ, 0 ≤ r ∧ factor tS tD v = r := by
  obtain ⟨r, hr, e⟩ := degree_real tS tD v
  refine ⟨(Real.sqrt r)⁻¹, by positivity, ?_⟩
  unfold factor
  rw [e, Ideal.rsqrt_coe, if_neg (by linarith), if_neg (by linarith)]

end Count

section Equation

variable {N E : Type} [Fintype E] (tS tD : E → N → Prop) [∀ e v, Decidable (tS e v)] [∀ e v, Decidable (tD e v)] (nS nD : E → N)

/-- What a node gathers: its own value, its sources' over the edges that end at it, and its targets' over the edges that start at it. -/
def collect (Q : N → EReal) (v : N) : EReal := (Q v + ∑ e, if tD e v then Q (nS e) else 0) + ∑ e, if tS e v then Q (nD e) else 0

/-- One edge's contribution: scaled at the far end and then here, or times the product of the two factors. -/
theorem edge_eq (t : E → N → Prop) [∀ e v, Decidable (t e v)] (near far : E → N) (ht : ∀ e v, t e v → near e = v) (P f : N → EReal) (e : E) (v : N) :
    (if t e v then P (far e) * f (far e) else 0) * f v = if t e v then P (far e) * (f (far e) * f (near e)) else 0 := by
  by_cases h : t e v
  · rw [if_pos h, if_pos h, ht e v h, mul_assoc]
  · rw [if_neg h, if_neg h, zero_mul]

/-- The kernel's side of one layer is the reference's. -/
theorem scaled_sum_eq (hS : ∀ e v, tS e v → nS e = v) (hD : ∀ e v, tD e v → nD e = v) (f : N → EReal) (hf : ∀ v, ∃ r : ℝ, 0 ≤ r ∧ f v = r)
    (P : N → EReal) (v : N) :
    collect tS tD nS nD (fun u => P u * f u) v * f v
      = (∑ e, if tD e v then P (nS e) * (f (nS e) * f (nD e)) else 0)
        + (∑ e, if tS e v then P (nD e) * (f (nD e) * f (nS e)) else 0) + P v * (f v * f v) := by
  obtain ⟨r, hr, e⟩ := hf v
  unfold collect
  simp only [← edge_eq tD nD nS hD P f, ← edge_eq tS nS nD hS P f]
  rw [e, add_mul_coe _ _ hr, add_mul_coe _ _ hr, sum_mul_coe _ hr, sum_mul_coe _ hr, mul_assoc, ← e]
  abel

end Equation

/-! ## Edges listed in one row -/

/-- A sum over three equal stretches, one after the other. -/
theorem sum_three {n m : ℕ} (h : n + n + n = m) (f : Fin m → EReal) :
    ∑ e, f e = (∑ i : Fin n, f ⟨i.val, by omega⟩) + (∑ i : Fin n, f ⟨n + i.val, by omega⟩) + ∑ i : Fin n, f ⟨n + n + i.val, by omega⟩ := by
  subst h
  rw [Fin.sum_univ_add, Fin.sum_univ_add]
  rfl

/-- A node is the end of one loop, its own. -/
theorem sum_loop {N : Type} [Fintype N] (p : N → N → Prop) [∀ e v, Decidable (p e v)] (hp : ∀ e v, p e v ↔ e = v) (g : N → EReal) (v : N) :
    (∑ e, if p e v then g e else 0) = g v := by
  classical
  simp only [hp]
  rw [Finset.sum_ite_eq' Finset.univ v g, if_pos (Finset.mem_univ v)]

end Cert.Proof.Layer

end
-- ==== Proof.Rows.lean ====
/- Rows moved by index words, at any sizes, at the ideal instance.
   `x.at[idx].add(u)` of a vector or of the rows of a matrix is, at one entry, the entry plus the sum of the updates whose index word, read
   signed, names it (`scatterAdd_vec`, `scatterAdd_rows`); `table[idx]` reads the entry or row at the index word clamped into the table
   (`gather_vec`, `gather_rows`). -/
module

public import Idealize.ShloMosaic.Lib.Routing.OpsPair
public import Idealize.ShloMosaic.Lib.StableHlo.Predicate
public import Idealize.ShloMosaic.Lib.Pointwise

@[expose] public section

noncomputable section

namespace Cert.Proof.Rows

open Idealize.ShloMosaic

/-- A table's row named by an index word: the word read signed, clamped into `0 … N - 1`. -/
def clampTo (N : ℕ) (hN : 0 < N) {w : ℕ} (b : BitVec w) : Fin N := ⟨min b.toInt.toNat (N - 1), by omega⟩

/-- A word that reads as a row of the table is clamped to that row. -/
theorem clampTo_eq {N : ℕ} (hN : 0 < N) {w : ℕ} (b : BitVec w) (v : Fin N) (h : b.toInt = (v.val : ℤ)) : clampTo N hN b = v := by
  apply Fin.ext
  have := v.isLt
  show min b.toInt.toNat (N - 1) = v.val
  omega

/-- Where update `e` of a scatter into a vector lands: at `v` exactly when its index word, read signed, is `v`. -/
theorem lands_vec {N E w : ℕ} (d : ScatterDims ⟨1, ![N]⟩ ⟨2, ![E, 1]⟩ ⟨1, ![E]⟩) (huw : d.updateWindowDims = []) (hiw : d.insertedWindowDims = [0])
    (hsd : d.scatterDimsToOperandDims = [0]) (hivd : d.indexVectorDim = 1) (idx : IVec ⟨2, ![E, 1]⟩ w) (e : Fin E) (v : Fin N) :
    d.resultIdx? (ix1 e) idx = some (ix1 v) ↔ (idx (ix2 e 0)).toInt = (v.val : ℤ) := by
  obtain ⟨uw, iw, sd, iv, wf⟩ := d
  subst huw hiw hsd hivd
  rw [Routing.resultIdx?_eq_some]
  have hsi : ∀ c, (ScatterDims.mk [] [0] [0] 1 wf).siIdx (ix1 e) c = ix2 e 0 := fun c => by
    funext b
    match b with
    | ⟨0, _⟩ => rfl
    | ⟨1, _⟩ => exact Subsingleton.elim (α := Fin 1) _ _
  have h0 : (ScatterDims.mk [] [0] [0] 1 wf).start (ix1 e) idx 0 = (idx (ix2 e 0)).toInt := by
    unfold ScatterDims.start
    rw [dif_pos (List.mem_singleton.2 rfl), hsi]
  have hw : (ScatterDims.mk [] [0] [0] 1 wf).window (ix1 e) 0 = 0 := rfl
  constructor
  · intro h
    have := h 0
    rw [h0, hw] at this
    simpa using this
  · intro h a
    match a with
    | ⟨0, _⟩ =>
      show (ScatterDims.mk [] [0] [0] 1 wf).start (ix1 e) idx 0 + ((ScatterDims.mk [] [0] [0] 1 wf).window (ix1 e) 0 : ℤ) = (v.val : ℤ)
      rw [h0, hw, h]; simp

/-- Where element `k` of update row `e` of a scatter of rows lands: at `(v, j)` exactly when `k` is `j` and the row's index word, read
    signed, is `v`. -/
theorem lands_rows {N C E w : ℕ} (d : ScatterDims ⟨2, ![N, C]⟩ ⟨2, ![E, 1]⟩ ⟨2, ![E, C]⟩) (huw : d.updateWindowDims = [1])
    (hiw : d.insertedWindowDims = [0]) (hsd : d.scatterDimsToOperandDims = [0]) (hivd : d.indexVectorDim = 1)
    (idx : IVec ⟨2, ![E, 1]⟩ w) (e : Fin E) (k : Fin C) (v : Fin N) (j : Fin C) :
    d.resultIdx? (ix2 e k) idx = some (ix2 v j) ↔ (idx (ix2 e 0)).toInt = (v.val : ℤ) ∧ k = j := by
  obtain ⟨uw, iw, sd, iv, wf⟩ := d
  subst huw hiw hsd hivd
  rw [Routing.resultIdx?_eq_some]
  have hsi : ∀ c, (ScatterDims.mk [1] [0] [0] 1 wf).siIdx (ix2 e k) c = ix2 e 0 := fun c => by
    funext b
    match b with
    | ⟨0, _⟩ => rfl
    | ⟨1, _⟩ => exact Subsingleton.elim (α := Fin 1) _ _
  have h0 : (ScatterDims.mk [1] [0] [0] 1 wf).start (ix2 e k) idx 0 = (idx (ix2 e 0)).toInt := by
    unfold ScatterDims.start
    rw [dif_pos (List.mem_singleton.2 rfl), hsi]
  have h1 : (ScatterDims.mk [1] [0] [0] 1 wf).start (ix2 e k) idx 1 = 0 := rfl
  have hw0 : (ScatterDims.mk [1] [0] [0] 1 wf).window (ix2 e k) 0 = 0 := rfl
  have hw1 : (ScatterDims.mk [1] [0] [0] 1 wf).window (ix2 e k) 1 = k.val := rfl
  constructor
  · intro h
    have a0 := h 0
    have a1 := h 1
    rw [h0, hw0] at a0
    rw [h1, hw1] at a1
    exact ⟨by simpa using a0, Fin.ext (by simpa using a1)⟩
  · rintro ⟨h, rfl⟩ a
    match a with
    | ⟨0, _⟩ =>
      show (ScatterDims.mk [1] [0] [0] 1 wf).start (ix2 e k) idx 0 + ((ScatterDims.mk [1] [0] [0] 1 wf).window (ix2 e k) 0 : ℤ) = (v.val : ℤ)
      rw [h0, hw0, h]; simp
    | ⟨1, _⟩ =>
      show (ScatterDims.mk [1] [0] [0] 1 wf).start (ix2 e k) idx 1 + ((ScatterDims.mk [1] [0] [0] 1 wf).window (ix2 e k) 1 : ℤ) = (k.val : ℤ)
      rw [h1, hw1]; simp

/-- `x.at[idx].add(u)` over a vector, at entry `v`: the entry plus the updates whose index word is `v`. -/
theorem scatterAdd_vec {N E w : ℕ} {φ : FTy} (d : ScatterDims ⟨1, ![N]⟩ ⟨2, ![E, 1]⟩ ⟨1, ![E]⟩) (huw : d.updateWindowDims = [])
    (hiw : d.insertedWindowDims = [0]) (hsd : d.scatterDimsToOperandDims = [0]) (hivd : d.indexVectorDim = 1)
    (x : FVec Ideal ⟨1, ![N]⟩ φ) (idx : IVec ⟨2, ![E, 1]⟩ w) (u : FVec Ideal ⟨1, ![E]⟩ φ) (v : Fin N) :
    (Host.scatterAdd d x idx u (ix1 v) : EReal)
      = (x (ix1 v) : EReal) + ∑ e : Fin E, if (idx (ix2 e 0)).toInt = (v.val : ℤ) then (u (ix1 e) : EReal) else 0 := by
  show (x (ix1 v) : EReal) + ∑ j ∈ Finset.univ.filter (fun j => d.resultIdx? j idx = some (ix1 v)), (u j : EReal) = _
  rw [Finset.sum_filter, sum_idx1]
  simp only [lands_vec d huw hiw hsd hivd]

/-- `x.at[idx].add(u)` over the rows of a matrix, at `(v, j)`: the entry plus column `j` of the update rows whose index word is `v`. -/
theorem scatterAdd_rows {N C E w : ℕ} {φ : FTy} (d : ScatterDims ⟨2, ![N, C]⟩ ⟨2, ![E, 1]⟩ ⟨2, ![E, C]⟩) (huw : d.updateWindowDims = [1])
    (hiw : d.insertedWindowDims = [0]) (hsd : d.scatterDimsToOperandDims = [0]) (hivd : d.indexVectorDim = 1)
    (x : FVec Ideal ⟨2, ![N, C]⟩ φ) (idx : IVec ⟨2, ![E, 1]⟩ w) (u : FVec Ideal ⟨2, ![E, C]⟩ φ) (v : Fin N) (j : Fin C) :
    (Host.scatterAdd d x idx u (ix2 v j) : EReal)
      = (x (ix2 v j) : EReal) + ∑ e : Fin E, if (idx (ix2 e 0)).toInt = (v.val : ℤ) then (u (ix2 e j) : EReal) else 0 := by
  show (x (ix2 v j) : EReal) + ∑ i ∈ Finset.univ.filter (fun i => d.resultIdx? i idx = some (ix2 v j)), (u i : EReal) = _
  rw [Finset.sum_filter, sum_idx2]
  simp only [lands_rows d huw hiw hsd hivd]
  refine congrArg (_ + ·) (Finset.sum_congr rfl fun e _ => ?_)
  by_cases h : (idx (ix2 e 0)).toInt = (v.val : ℤ)
  · simp [h]
  · simp [h]

/-- `table[idx]` over a vector: the entry at the clamped index word. -/
theorem gather_vec {α : Type} {N E w : ℕ} (d : GatherDims ⟨1, ![N]⟩ ⟨2, ![E, 1]⟩ ⟨1, ![E]⟩) (hcoll : d.collapsedSliceDims = [0])
    (hob : d.operandBatchingDims = []) (hsim : d.startIndexMap = [0]) (hivd : d.indexVectorDim = 1)
    (x : (⟨1, ![N]⟩ : Shape).Idx → α) (idx : IVec ⟨2, ![E, 1]⟩ w) (hN : 0 < N) (e : Fin E) :
    Host.gather d x idx (ix1 e) = x (ix1 (clampTo N hN (idx (ix2 e 0)))) := by
  have h := StableHlo.Predicate.gather_take d hcoll hob hsim hivd x idx e hN
  have e1 : ∀ {n : ℕ} (i : Fin n), (Shape.Idx.ofFin i : (⟨1, ![n]⟩ : Shape).Idx) = ix1 i := fun i => by
    funext a; match a with | ⟨0, _⟩ => rfl
  have e2 : (StableHlo.Predicate.ixP e : (⟨2, ![E, 1]⟩ : Shape).Idx) = ix2 e 0 := by
    funext a; match a with | ⟨0, _⟩ => rfl | ⟨1, _⟩ => rfl
  rw [e1, e1] at h
  refine h.trans (congrArg (fun i => x (ix1 i)) (Fin.ext ?_))
  show min (idx (StableHlo.Predicate.ixP e)).toInt.toNat (N - 1) = min (idx (ix2 e 0)).toInt.toNat (N - 1)
  rw [e2]

/-- `table[idx]` over the rows of a matrix: the row at the clamped index word. -/
theorem gather_rows {α : Type} {N C E w : ℕ} (d : GatherDims ⟨2, ![N, C]⟩ ⟨2, ![E, 1]⟩ ⟨2, ![E, C]⟩) (hoff : d.offsetDims = [1])
    (hcoll : d.collapsedSliceDims = [0]) (hob : d.operandBatchingDims = []) (hsim : d.startIndexMap = [0]) (hivd : d.indexVectorDim = 1)
    (x : (⟨2, ![N, C]⟩ : Shape).Idx → α) (idx : IVec ⟨2, ![E, 1]⟩ w) (hN : 0 < N) (e : Fin E) (j : Fin C) :
    Host.gather d x idx (ix2 e j) = x (ix2 (clampTo N hN (idx (ix2 e 0))) j) := by
  unfold Host.gather
  refine congrArg x (funext fun a => Fin.ext ?_)
  have hbN : ∀ a', a' ∉ d.operandBatchingDims := fun a' => by rw [hob]; exact List.not_mem_nil
  have hk0 : ∀ k ∈ d.batchDims, k = (0 : Fin 2) := fun k hk => by
    have hk' : k ∉ d.offsetDims := of_decide_eq_true (List.mem_filter.1 hk).2
    rw [hoff] at hk'
    have h1 : k.val ≠ 1 := fun q => hk' (List.mem_singleton.2 (Fin.ext q))
    have h2 : k.val < 2 := k.isLt
    exact Fin.ext (by show k.val = 0; omega)
  have hk1 : ∀ k ∈ d.offsetDims, k = (1 : Fin 2) := fun k hk => by rw [hoff] at hk; exact List.mem_singleton.1 hk
  have q0 : ∀ X : Fin 2, X = 0 → (ix2 e j X).val = e.val := fun X h => by subst h; rfl
  have q1 : ∀ X : Fin 2, X = 1 → (ix2 e j X).val = j.val := fun X h => by subst h; rfl
  match a with
  | ⟨0, _⟩ =>
    have hk : (0 : Fin 2) ∉ d.sKept := fun h => ((d.mem_sKept 0).1 h).1 (by rw [hcoll]; exact List.mem_singleton.2 rfl)
    have hm : (0 : Fin 2) ∈ d.startIndexMap := by rw [hsim]; exact List.mem_singleton.2 rfl
    have hsl : d.sliceSizes 0 = 1 := d.slice_collapsed 0 (by rw [hcoll]; exact List.mem_singleton.2 rfl)
    have hsi : d.siIdx (ix2 e j) ⟨d.startIndexMap.idxOf 0, List.idxOf_lt_length_iff.2 hm⟩ = ix2 e (0 : Fin 1) := by
      funext b
      match b with
      | ⟨0, _⟩ =>
        apply Fin.ext
        unfold GatherDims.siIdx
        rw [dif_neg (by rw [hivd]; exact Nat.zero_ne_one)]
        unfold GatherDims.siCoord
        simp only [Fin.val_cast]
        exact q0 _ (hk0 _ (List.getElem_mem _))
      | ⟨1, _⟩ => exact Subsingleton.elim (α := Fin 1) _ _
    show d.start (ix2 e j) idx 0 + d.batchCoord (ix2 e j) 0 + d.offCoord (ix2 e j) 0 = min (idx (ix2 e 0)).toInt.toNat (N - 1)
    rw [d.batchCoord_eq_zero _ _ (hbN 0), d.offCoord_eq_zero _ _ hk]
    simp only [Nat.add_zero]
    unfold GatherDims.start
    rw [dif_pos hm, hsi, hsl]
    rfl
  | ⟨1, _⟩ =>
    have h10 : ∀ l : List (Fin 2), l = [0] → (1 : Fin 2) ∉ l := fun l hl => by subst hl; decide
    have hk : (1 : Fin 2) ∈ d.sKept := (d.mem_sKept 1).2 ⟨h10 _ hcoll, hbN 1⟩
    show d.start (ix2 e j) idx 1 + d.batchCoord (ix2 e j) 1 + d.offCoord (ix2 e j) 1 = j.val
    rw [d.batchCoord_eq_zero _ _ (hbN 1), Nat.add_zero]
    unfold GatherDims.start GatherDims.offCoord
    rw [dif_neg (h10 _ hsim), dif_pos hk, Nat.zero_add]
    exact q1 _ (hk1 _ (List.getElem_mem _))

end Cert.Proof.Rows

end
-- ==== Proof.Words.lean ====
/- The index words of the edges. A word below zero counts from the end: 100000 is added to it (`wrap`). Its node is the result clamped
   into the 100000 nodes (`node`), which is where a gather reads; a scatter-add adds at the node the result names and nowhere if it names
   none (`Lands`). The reference lists the edges three ways in one row of 300000: forward, backward, and one loop per node. -/
module

public import proofs.«01_k».proof.Proof.Rows
public import Idealize.ShloMosaic.Lib.WordCmp

@[expose] public section

noncomputable section

namespace Cert.Proof.Words

open Idealize.ShloMosaic Cert.Proof.Rows

/-- An index word counted from the end if it is negative. -/
def wrap (w : BitVec 32) : BitVec 32 := Scalar.select (IntOp.cmpi .slt w 0#32) (IntOp.addi w 100000#32) w

/-- The wrapped words of a list, as the column that a gather or a scatter reads. -/
def wrapCol {E : ℕ} (s : IVec ⟨1, ![E]⟩ 32) : IVec ⟨2, ![E, 1]⟩ 32 := fun i => wrap (s (ix1 (i 0)))

/-- The programs' own spelling of that column. -/
theorem wrapCol_eq {E : ℕ} (hb : (⟨1, ![E]⟩ : Shape).BroadcastsInDim ⟨2, ![E, 1]⟩ ![0]) (h0 h1 : (⟨0, ![]⟩ : Shape).BroadcastsInDim ⟨1, ![E]⟩ ![])
    (s : IVec ⟨1, ![E]⟩ 32) :
    broadcastInDim ⟨2, ![E, 1]⟩ ![0] hb
        (select (cmpi .slt s (broadcastInDim ⟨1, ![E]⟩ ![] h0 (constantI ⟨0, ![]⟩ 32 0#32)))
          (addi s (broadcastInDim ⟨1, ![E]⟩ ![] h1 (constantI ⟨0, ![]⟩ 32 100000#32))) s)
      = wrapCol s := by
  funext i
  have e : ∀ (x : IVec ⟨1, ![E]⟩ 32), broadcastInDim ⟨2, ![E, 1]⟩ ![0] hb x i = x (ix1 (i 0)) := fun x => by
    refine congrArg x (funext fun a => ?_)
    match a with
    | ⟨0, _⟩ =>
      apply Fin.ext
      by_cases hE : E = 1
      · subst hE
        have := (i 0).isLt
        simp at this
        simp [ix1, this]
      · simp [ix1, hE]
  rw [e]
  rfl

/-- The node an edge's word names, clamped into the table. -/
def node {E : ℕ} (s : IVec ⟨1, ![E]⟩ 32) (e : Fin E) : Fin 100000 := clampTo 100000 (by decide) (wrap (s (ix1 e)))

/-- The edge's word names node `v`. -/
def Lands {E : ℕ} (s : IVec ⟨1, ![E]⟩ 32) (e : Fin E) (v : Fin 100000) : Prop := (wrap (s (ix1 e))).toInt = (v.val : ℤ)

instance {E : ℕ} (s : IVec ⟨1, ![E]⟩ 32) (e : Fin E) (v : Fin 100000) : Decidable (Lands s e v) := by unfold Lands; infer_instance

/-- Where a word names a node, that is the node a gather reads. -/
theorem node_of_lands {E : ℕ} (s : IVec ⟨1, ![E]⟩ 32) (e : Fin E) (v : Fin 100000) (h : Lands s e v) : node s e = v :=
  clampTo_eq _ _ _ h

/-! ## The loops -/

/-- The words 0, 1, …, 99999. -/
abbrev loops : IVec ⟨1, ![100000]⟩ 32 := iotaInDim ⟨1, ![100000]⟩ 32 0

/-- A loop's word names its own node only. -/
theorem lands_loops (e v : Fin 100000) : Lands loops e v ↔ e = v := by
  have he := e.isLt
  have h : wrap (loops (ix1 e)) = BitVec.ofNat 32 e.val := by
    show Scalar.select (IntOp.cmpi .slt (BitVec.ofNat 32 e.val) (BitVec.ofNat 32 0)) _ _ = _
    rw [WordCmp.cmpi_slt_ofNat (by omega) (by omega), WordCmp.select_decide, if_neg (by omega)]
    rfl
  unfold Lands
  rw [h, WordCmp.toInt_ofNat_of_lt (by omega), Fin.ext_iff]
  exact Int.ofNat_inj

theorem node_loops (e : Fin 100000) : node loops e = e := node_of_lands _ _ _ ((lands_loops e e).2 rfl)

/-! ## The row of 300000 -/

section Row

variable (a b c : IVec ⟨1, ![100000]⟩ 32)
  (h : Shape.Concatenates ([(⟨⟨1, ![100000]⟩, a⟩ : (s : Shape) × (s.Idx → BitVec 32)), ⟨⟨1, ![100000]⟩, b⟩, ⟨⟨1, ![100000]⟩, c⟩].map (·.1)) ⟨1, ![300000]⟩ 0)

/-- Three lists of words, one after the other. -/
abbrev row : IVec ⟨1, ![300000]⟩ 32 :=
  concatenate ⟨1, ![300000]⟩ 0 [⟨⟨1, ![100000]⟩, a⟩, ⟨⟨1, ![100000]⟩, b⟩, ⟨⟨1, ![100000]⟩, c⟩] h

theorem row_first (i : Fin 100000) : row a b c h (ix1 ⟨i.val, by omega⟩) = a (ix1 i) := by
  have := i.isLt
  pointwise [row]
theorem row_second (i : Fin 100000) : row a b c h (ix1 ⟨100000 + i.val, by omega⟩) = b (ix1 i) := by
  have := i.isLt
  pointwise [row]
theorem row_third (i : Fin 100000) : row a b c h (ix1 ⟨100000 + 100000 + i.val, by omega⟩) = c (ix1 i) := by
  have := i.isLt
  pointwise [row]
  rw [dif_neg (by omega), dif_neg (by omega)]
  exact congrArg (fun k => c (ix1 k)) (Fin.ext (by show 200000 + i.val - 100000 - 100000 = i.val; omega))

end Row

end Cert.Proof.Words

end
-- ==== Proof.Net.lean ====
/- The network as plain formulas over rows and columns, in the extended reals: what the kernel computes (`kernelNet`), what the reference
   computes (`referenceNet`), and that they are the same (`net_eq`). Both take the edges' source words `s` and target words `d`. -/
module

public import proofs.«01_k».proof.Proof.Layer
public import proofs.«01_k».proof.Proof.Words

@[expose] public section

noncomputable section

namespace Cert.Proof.Net

open Idealize.ShloMosaic Cert.Proof.Rows Cert.Proof.Words

/-- A matrix with one row per node. -/
abbrev Mat (C : ℕ) := Fin 100000 → Fin C → EReal

/-- A linear layer: `x · w + b`. -/
def lin {K C : ℕ} (x : Mat K) (w : Fin K → Fin C → EReal) (b : Fin C → EReal) : Mat C := fun v j => (∑ k, x v k * w k j) + b j

/-- Negative entries replaced by zero. -/
def relu {C : ℕ} (x : Mat C) : Mat C := fun v j => max (x v j) 0

section Kernel

variable (s d : IVec ⟨1, ![100000]⟩ 32)

/-- The factor of each node. -/
def inv (v : Fin 100000) : EReal := Layer.factor (Lands s) (Lands d) v

/-- Each row times its node's factor. -/
def scale {C : ℕ} (x : Mat C) : Mat C := fun v j => x v j * inv s d v

/-- What each node gathers along the edges, column by column. -/
def collect {C : ℕ} (x : Mat C) : Mat C := fun v j => Layer.collect (Lands s) (Lands d) (node s) (node d) (fun u => x u j) v

/-- The kernel's network. -/
def kernelNet {K M C : ℕ} (x : Mat K) (w₁ : Fin K → Fin M → EReal) (b₁ : Fin M → EReal) (w₂ : Fin M → Fin C → EReal) (b₂ : Fin C → EReal) : Mat C :=
  scale s d (collect s d (scale s d (lin (relu (scale s d (collect s d (scale s d (lin x w₁ b₁))))) w₂ b₂)))

/-! ## The kernel's arrays -/

/-- The two scatter-adds of ones count each node's degree. -/
theorem degree_array (D : ScatterDims ⟨1, ![100000]⟩ ⟨2, ![100000, 1]⟩ ⟨1, ![100000]⟩) (huw : D.updateWindowDims = []) (hiw : D.insertedWindowDims = [0])
    (hsd : D.scatterDimsToOperandDims = [0]) (hivd : D.indexVectorDim = 1) (one u₁ u₂ : FVec Ideal ⟨1, ![100000]⟩ .f32)
    (h0 : ∀ i, (one i : EReal) = 1) (h1 : ∀ i, (u₁ i : EReal) = 1) (h2 : ∀ i, (u₂ i : EReal) = 1) (v : Fin 100000) :
    (Host.scatterAdd D (Host.scatterAdd D one (wrapCol s) u₁) (wrapCol d) u₂ (ix1 v) : EReal) = Layer.degree (Lands s) (Lands d) v := by
  rw [scatterAdd_vec D huw hiw hsd hivd, scatterAdd_vec D huw hiw hsd hivd, h0]
  simp only [h1, h2]
  rfl

/-- The two gathers and scatter-adds of rows collect along the edges. -/
theorem collect_array {C : ℕ} (D : ScatterDims ⟨2, ![100000, C]⟩ ⟨2, ![100000, 1]⟩ ⟨2, ![100000, C]⟩) (huw : D.updateWindowDims = [1])
    (hiw : D.insertedWindowDims = [0]) (hsd : D.scatterDimsToOperandDims = [0]) (hivd : D.indexVectorDim = 1)
    (G : GatherDims ⟨2, ![100000, C]⟩ ⟨2, ![100000, 1]⟩ ⟨2, ![100000, C]⟩) (hoff : G.offsetDims = [1]) (hcoll : G.collapsedSliceDims = [0])
    (hob : G.operandBatchingDims = []) (hsim : G.startIndexMap = [0]) (hgv : G.indexVectorDim = 1)
    (x : FVec Ideal ⟨2, ![100000, C]⟩ .f32) (v : Fin 100000) (j : Fin C) :
    (Host.scatterAdd D (Host.scatterAdd D x (wrapCol d) (Host.gather G x (wrapCol s))) (wrapCol s) (Host.gather G x (wrapCol d)) (ix2 v j) : EReal)
      = collect s d (fun u k => (x (ix2 u k) : EReal)) v j := by
  rw [scatterAdd_rows D huw hiw hsd hivd, scatterAdd_rows D huw hiw hsd hivd]
  simp only [gather_rows G hoff hcoll hob hsim hgv _ _ (by decide : 0 < 100000)]
  rfl

end Kernel

/-! ## The reference's network -/

section Reference

variable (src dst : IVec ⟨1, ![300000]⟩ 32)

/-- A node's degree over the row of 300000, bounded below by one, and its factor. -/
def rinv (v : Fin 100000) : EReal := Ideal.rsqrt (max (0 + ∑ e, if Lands dst e v then 1 else 0) 1)

/-- One layer's sum over the row of 300000: the source's row times the product of the two ends' factors. -/
def spread {C : ℕ} (x : Mat C) : Mat C := fun v j =>
  0 + ∑ e, if Lands dst e v then x (node src e) j * (rinv dst (node src e) * rinv dst (node dst e)) else 0

/-- The reference's network. -/
def referenceNet {K M C : ℕ} (x : Mat K) (w₁ : Fin K → Fin M → EReal) (b₁ : Fin M → EReal) (w₂ : Fin M → Fin C → EReal) (b₂ : Fin C → EReal) : Mat C :=
  spread src dst (lin (relu (spread src dst (lin x w₁ b₁))) w₂ b₂)

end Reference

/-! ## The equation -/

section Equation

variable (s d : IVec ⟨1, ![100000]⟩ 32)

/-- The words of the reference's row are the edges', the edges' again, and the loops'. -/
theorem lands_row (a b c : IVec ⟨1, ![100000]⟩ 32) (h) (i v : Fin 100000) :
    (Lands (row a b c h) ⟨i.val, by omega⟩ v ↔ Lands a i v) ∧ (Lands (row a b c h) ⟨100000 + i.val, by omega⟩ v ↔ Lands b i v)
      ∧ (Lands (row a b c h) ⟨100000 + 100000 + i.val, by omega⟩ v ↔ Lands c i v) := by
  unfold Lands
  rw [row_first, row_second, row_third]
  exact ⟨Iff.rfl, Iff.rfl, Iff.rfl⟩

/-- And so are the nodes they name. -/
theorem node_row (a b c : IVec ⟨1, ![100000]⟩ 32) (h) (i : Fin 100000) :
    node (row a b c h) ⟨i.val, by omega⟩ = node a i ∧ node (row a b c h) ⟨100000 + i.val, by omega⟩ = node b i
      ∧ node (row a b c h) ⟨100000 + 100000 + i.val, by omega⟩ = node c i := by
  unfold node
  rw [row_first, row_second, row_third]
  exact ⟨rfl, rfl, rfl⟩

/-- The reference's degree, counted at the targets of its row, is the kernel's: a node is the target of the edges that end at it, of those
    that start at it listed backward, and of its loop. -/
theorem rinv_eq (h') (v : Fin 100000) : rinv (row d s loops h') v = inv s d v := by
  have e : (0 + ∑ e, if Lands (row d s loops h') e v then (1 : EReal) else 0) = Layer.degree (Lands s) (Lands d) v := by
    rw [Layer.sum_three (n := 100000) (by norm_num)]
    simp only [(lands_row d s loops h' _ v).1, (lands_row d s loops h' _ v).2.1, (lands_row d s loops h' _ v).2.2]
    rw [Layer.sum_loop _ lands_loops]
    unfold Layer.degree
    abel
  unfold rinv
  rw [e, Layer.max_degree]
  rfl

/-- One layer: the reference's sum is the kernel's scaled one. -/
theorem spread_eq (h h') {C : ℕ} (x : Mat C) : spread (row s d loops h) (row d s loops h') x = scale s d (collect s d (scale s d x)) := by
  funext v j
  show _ = Layer.collect (Lands s) (Lands d) (node s) (node d) (fun u => x u j * inv s d u) v * inv s d v
  rw [Layer.scaled_sum_eq (Lands s) (Lands d) (node s) (node d) (node_of_lands s) (node_of_lands d) (inv s d) (Layer.factor_real _ _) (fun u => x u j)]
  unfold spread
  simp only [rinv_eq]
  rw [Layer.sum_three (n := 100000) (by norm_num), zero_add]
  simp only [(lands_row d s loops h' _ v).1, (lands_row d s loops h' _ v).2.1, (lands_row d s loops h' _ v).2.2,
    (node_row d s loops h' _).1, (node_row d s loops h' _).2.1, (node_row d s loops h' _).2.2,
    (node_row s d loops h _).1, (node_row s d loops h _).2.1, (node_row s d loops h _).2.2]
  rw [Layer.sum_loop _ lands_loops]
  simp only [node_loops]

/-- The two networks are the same. -/
theorem net_eq (h h') {K M C : ℕ} (x : Mat K) (w₁ : Fin K → Fin M → EReal) (b₁ : Fin M → EReal) (w₂ : Fin M → Fin C → EReal) (b₂ : Fin C → EReal) :
    referenceNet (row s d loops h) (row d s loops h') x w₁ b₁ w₂ b₂ = kernelNet s d x w₁ b₁ w₂ b₂ := by
  unfold referenceNet kernelNet
  rw [spread_eq, spread_eq]

end Equation

end Cert.Proof.Net

end
-- ==== Proof.KernelValue.lean ====
/- The kernel's result, at the ideal instance: what the host operations around the three pipelines leave (`factor_read` …), chained with the
   pipelines' arrays (`Blocks.region0` …) to the whole program's result (`result_eq`): the network of the argument arrays over the edges
   that the program's first part computed. -/
module

public import proofs.«01_k».proof.Proof.Blocks
public import proofs.«01_k».proof.Proof.Net

@[expose] public section

set_option maxRecDepth 16384

noncomputable section

namespace Cert.Proof.KernelValue

open Cert.KernelIdeal Cert.KernelIdeal.Gen Cert.Proof.Words Cert.Proof.Net
open Idealize.ShloMosaic Idealize.ShloMosaic.TcCoe Idealize.ShloMosaic.StableHlo Idealize.SL.Sem

/-- A column as a vector. -/
abbrev flat {α : Type} (x : S100000x1.Idx → α) : S100000.Idx → α := shapeCast S100000 x shapeCasts_S100000x1_S100000
/-- A vector as a column. -/
abbrev column {α : Type} (x : S100000.Idx → α) : S100000x1.Idx → α := shapeCast S100000x1 x shapeCasts_S100000_S100000x1

theorem column_apply {α : Type} (x : S100000.Idx → α) (v : Fin 100000) : column x (ix2 v 0) = x (ix1 v) := by pointwise

/-- A vector of ones. -/
theorem ones_apply (i : S100000.Idx) : (broadcastInDim S100000 ![] bcast_S_S100000 (constant (F := Ideal) S_ .f32 0x3F800000#32) i : EReal) = 1 := by
  pointwise

/-- A reciprocal square root at a node. -/
theorem rsqrt_of (x : FVec Ideal S100000 .f32) (i : S100000.Idx) {r : EReal} (h : (x i : EReal) = r) : (Host.rsqrt (F := Ideal) x i : EReal) = Ideal.rsqrt r := by
  rw [← h]
  rfl

/-- Rows added along the edges, at the targets and then at the sources. -/
abbrev twice {C : ℕ} (D : ScatterDims ⟨2, ![100000, C]⟩ ⟨2, ![100000, 1]⟩ ⟨2, ![100000, C]⟩)
    (G : GatherDims ⟨2, ![100000, C]⟩ ⟨2, ![100000, 1]⟩ ⟨2, ![100000, C]⟩) (x : FVec Ideal ⟨2, ![100000, C]⟩ .f32) (s d : IVec ⟨1, ![100000]⟩ 32) :
    FVec Ideal ⟨2, ![100000, C]⟩ .f32 :=
  Host.scatterAdd D (Host.scatterAdd D x (wrapCol d) (Host.gather G x (wrapCol s))) (wrapCol s) (Host.gather G x (wrapCol d))

theorem twice_apply {C : ℕ} (D : ScatterDims ⟨2, ![100000, C]⟩ ⟨2, ![100000, 1]⟩ ⟨2, ![100000, C]⟩) (huw : D.updateWindowDims = [1])
    (hiw : D.insertedWindowDims = [0]) (hsd : D.scatterDimsToOperandDims = [0]) (hivd : D.indexVectorDim = 1)
    (G : GatherDims ⟨2, ![100000, C]⟩ ⟨2, ![100000, 1]⟩ ⟨2, ![100000, C]⟩) (hoff : G.offsetDims = [1]) (hcoll : G.collapsedSliceDims = [0])
    (hob : G.operandBatchingDims = []) (hsim : G.startIndexMap = [0]) (hgv : G.indexVectorDim = 1)
    (x : FVec Ideal ⟨2, ![100000, C]⟩ .f32) (s d : IVec ⟨1, ![100000]⟩ 32) (v : Fin 100000) (j : Fin C) :
    (twice D G x s d (ix2 v j) : EReal) = collect s d (fun u k => (x (ix2 u k) : EReal)) v j :=
  collect_array s d D huw hiw hsd hivd G hoff hcoll hob hsim hgv x v j

section Reads

variable (V : Valuation τ sig (Elt Ideal))

/-! ## Before the first pipeline -/

/-- The targets, as a vector. -/
theorem target_read : (after hostOps0_10 V (Proc.devRef .tc main_v27) : IVec S100000 32) = flat (V (Proc.devRef .tc main_v26) : IVec S100000x1 32) := by
  after_results
  rfl

/-- The degrees: ones, a one added per source, a one added per target. -/
theorem degree_read : (after hostOps0_10 V (Proc.devRef .tc main_v44) : FVec Ideal S100000 .f32)
    = Host.scatterAdd scatter_S100000_S100000x1_S100000_n_0_0_1
        (Host.scatterAdd scatter_S100000_S100000x1_S100000_n_0_0_1 (broadcastInDim S100000 ![] bcast_S_S100000 (constant (F := Ideal) S_ .f32 0x3F800000#32))
          (wrapCol (V (Proc.devRef .tc main_v24) : IVec S100000 32)) (broadcastInDim S100000 ![] bcast_S_S100000 (constant (F := Ideal) S_ .f32 0x3F800000#32)))
        (wrapCol (flat (V (Proc.devRef .tc main_v26) : IVec S100000x1 32))) (broadcastInDim S100000 ![] bcast_S_S100000 (constant (F := Ideal) S_ .f32 0x3F800000#32)) := by
  after_results
  rw [← wrapCol_eq bcast_S100000_S100000x1_0 bcast_S_S100000 bcast_S_S100000, ← wrapCol_eq bcast_S100000_S100000x1_0 bcast_S_S100000 bcast_S_S100000]
  rfl

/-- The factors are the degrees' reciprocal square roots. -/
theorem rsqrt_read : (after hostOps0_10 V (Proc.devRef .tc main_v45) : FVec Ideal S100000 .f32)
    = (Host.rsqrt (F := Ideal) (φ := .f32) (after hostOps0_10 V (Proc.devRef .tc main_v44) : FVec Ideal S100000 .f32) : FVec Ideal S100000 .f32) := by
  after_results

/-- So the factor of a node is the network's. -/
theorem factor_read (v : Fin 100000) : ((after hostOps0_10 V (Proc.devRef .tc main_v45) : FVec Ideal S100000 .f32) (ix1 v) : EReal)
    = inv (V (Proc.devRef .tc main_v24) : IVec S100000 32) (flat (V (Proc.devRef .tc main_v26) : IVec S100000x1 32)) v := by
  have h := degree_array (V (Proc.devRef .tc main_v24) : IVec S100000 32) (flat (V (Proc.devRef .tc main_v26) : IVec S100000x1 32))
    scatter_S100000_S100000x1_S100000_n_0_0_1 rfl rfl rfl rfl _ _ _ ones_apply ones_apply ones_apply v
  unfold Net.inv Layer.factor
  exact (congrFun (rsqrt_read V) _).trans (rsqrt_of _ _ ((congrFun (degree_read V) _).trans h))

/-- The factors as a column, and the first bias as a row. -/
theorem column_read : (after hostOps0_10 V (Proc.devRef .tc main_v47) : FVec Ideal S100000x1 .f32)
    = column (after hostOps0_10 V (Proc.devRef .tc main_v45) : FVec Ideal S100000 .f32) := by
  after_results
  rfl
theorem bias_read (j : Fin 128) : (after hostOps0_10 V (Proc.devRef .tc main_v46) : FVec Ideal S1x128 .f32) (ix2 0 j)
    = (V (Proc.devRef .tc main_arg3) : FVec Ideal S128 .f32) (ix1 j) := by
  after_results
  pointwise

/-! ## Between the first and the second -/

/-- The rows collected along the edges. -/
theorem collect1_read : (after hostOps1 V (Proc.devRef .tc main_v76) : FVec Ideal S100000x128 .f32)
    = twice scatter_S100000x128_S100000x1_S100000x128_1_0_0_1 gather_S100000x128_S100000x1_S100000x128_1_0_n_n_0_1_1128
        (V (Proc.devRef .tc main_v48) : FVec Ideal S100000x128 .f32) (V (Proc.devRef .tc main_v24) : IVec S100000 32)
        (V (Proc.devRef .tc main_v27) : IVec S100000 32) := by
  after_results
  unfold twice
  rw [← wrapCol_eq bcast_S100000_S100000x1_0 bcast_S_S100000 bcast_S_S100000, ← wrapCol_eq bcast_S100000_S100000x1_0 bcast_S_S100000 bcast_S_S100000]
theorem column1_read : (after hostOps1 V (Proc.devRef .tc main_v78) : FVec Ideal S100000x1 .f32)
    = column (V (Proc.devRef .tc main_v45) : FVec Ideal S100000 .f32) := by
  after_results
  rfl
theorem bias1_read (j : Fin 64) : (after hostOps1 V (Proc.devRef .tc main_v77) : FVec Ideal S1x64 .f32) (ix2 0 j)
    = (V (Proc.devRef .tc main_arg5) : FVec Ideal S64 .f32) (ix1 j) := by
  after_results
  pointwise

/-! ## Between the second and the third -/

/-- The rows collected along the edges, again. -/
theorem collect2_read : (after hostOps2 V (Proc.devRef .tc main_v107) : FVec Ideal S100000x64 .f32)
    = twice scatter_S100000x64_S100000x1_S100000x64_1_0_0_1 gather_S100000x64_S100000x1_S100000x64_1_0_n_n_0_1_164
        (V (Proc.devRef .tc main_v79) : FVec Ideal S100000x64 .f32) (V (Proc.devRef .tc main_v24) : IVec S100000 32)
        (V (Proc.devRef .tc main_v27) : IVec S100000 32) := by
  after_results
  unfold twice
  rw [← wrapCol_eq bcast_S100000_S100000x1_0 bcast_S_S100000 bcast_S_S100000, ← wrapCol_eq bcast_S100000_S100000x1_0 bcast_S_S100000 bcast_S_S100000]
theorem column2_read : (after hostOps2 V (Proc.devRef .tc main_v108) : FVec Ideal S100000x1 .f32)
    = column (V (Proc.devRef .tc main_v45) : FVec Ideal S100000 .f32) := by
  after_results
  rfl

end Reads

/-! ## The whole program -/

section Chain

variable (m : (ℓ : Loc nD τ sig) → Buf (Elt Ideal) ℓ) (ρ : Dev nD → PrngReg) (c : Dev nD)

/-- The edges' sources and targets, as the program's first part leaves them. -/
abbrev srcs : IVec S100000 32 := W10 m ρ c (Proc.devRef .tc main_v24)
abbrev dsts : IVec S100000 32 := flat (W10 m ρ c (Proc.devRef .tc main_v26) : IVec S100000x1 32)

/-- The argument arrays, by rows and columns. -/
abbrev argX : Mat 128 := fun v k => (m ((c : Thread nD τ).loc main_arg0) : FVec Ideal S100000x128 .f32) (ix2 v k)
abbrev argW1 : Fin 128 → Fin 128 → EReal := fun k j => (m ((c : Thread nD τ).loc main_arg2) : FVec Ideal S128x128 .f32) (ix2 k j)
abbrev argB1 : Fin 128 → EReal := fun j => (m ((c : Thread nD τ).loc main_arg3) : FVec Ideal S128 .f32) (ix1 j)
abbrev argW2 : Fin 128 → Fin 64 → EReal := fun k j => (m ((c : Thread nD τ).loc main_arg4) : FVec Ideal S128x64 .f32) (ix2 k j)
abbrev argB2 : Fin 64 → EReal := fun j => (m ((c : Thread nD τ).loc main_arg5) : FVec Ideal S64 .f32) (ix1 j)

/-- The factors, at the first pipeline's entry. -/
theorem factor11 (v : Fin 100000) : ((W11 m ρ c (Proc.devRef .tc main_v45) : FVec Ideal S100000 .f32) (ix1 v) : EReal) = inv (srcs m ρ c) (dsts m ρ c) v :=
  factor_read _ v

/-- What the later stretches read of the first part is as it was left: the sources, the targets and the factors. -/
theorem src12 : (W12 m ρ c (Proc.devRef .tc main_v24) : IVec S100000 32) = srcs m ρ c :=
  (W12_of m ρ c main_v24 (by decide)).trans (W11_of m ρ c main_v24 (by decide))
theorem dst12 : (W12 m ρ c (Proc.devRef .tc main_v27) : IVec S100000 32) = dsts m ρ c :=
  (W12_of m ρ c main_v27 (by decide)).trans (target_read _)
theorem fac12 : W12 m ρ c (Proc.devRef .tc main_v45) = W11 m ρ c (Proc.devRef .tc main_v45) := W12_of m ρ c main_v45 (by decide)
theorem src14 : (W14 m ρ c (Proc.devRef .tc main_v24) : IVec S100000 32) = srcs m ρ c :=
  ((W14_of m ρ c main_v24 (by decide)).trans (W13_of m ρ c main_v24 (by decide))).trans (src12 m ρ c)
theorem dst14 : (W14 m ρ c (Proc.devRef .tc main_v27) : IVec S100000 32) = dsts m ρ c :=
  ((W14_of m ρ c main_v27 (by decide)).trans (W13_of m ρ c main_v27 (by decide))).trans (dst12 m ρ c)
theorem fac14 : W14 m ρ c (Proc.devRef .tc main_v45) = W11 m ρ c (Proc.devRef .tc main_v45) :=
  ((W14_of m ρ c main_v45 (by decide)).trans (W13_of m ρ c main_v45 (by decide))).trans (fac12 m ρ c)

/-- The first pipeline's result: the first linear layer, scaled. -/
theorem first_eq (v : Fin 100000) (j : Fin 128) : ((W12 m ρ c (Proc.devRef .tc main_v48) : FVec Ideal S100000x128 .f32) (ix2 v j) : EReal)
    = scale (srcs m ρ c) (dsts m ρ c) (lin (argX m c) (argW1 m c) (argB1 m c)) v j := by
  have e : (W12 m ρ c (Proc.devRef .tc main_v48) : FVec Ideal S100000x128 .f32) = Blocks.G0 (V11 m ρ) c :=
    (W12_arr m ρ c 4).trans (Blocks.region0 (V11 m ρ) c)
  have ex : (V11 m ρ c main_arg0 : FVec Ideal S100000x128 .f32) = m ((c : Thread nD τ).loc main_arg0) := W11_args m ρ c _ (by decide)
  have ew : (V11 m ρ c main_arg2 : FVec Ideal S128x128 .f32) = m ((c : Thread nD τ).loc main_arg2) := W11_args m ρ c _ (by decide)
  have eb : (V11 m ρ c main_v46 : FVec Ideal S1x128 .f32) (ix2 0 j) = argB1 m c j :=
    (bias_read (W10 m ρ c) j).trans (congrFun (W10_args m ρ c main_arg3 (by decide)) _)
  have ef : (V11 m ρ c main_v47 : FVec Ideal S100000x1 .f32) (ix2 v 0) = inv (srcs m ρ c) (dsts m ρ c) v :=
    (congrFun (column_read (W10 m ρ c)) _).trans ((column_apply _ v).trans (factor11 m ρ c v))
  exact (congrFun e _).trans (Blocks.linScale_of _ _ _ _ v j (fun _ => congrFun ex _) (fun _ => congrFun ew _) eb ef)

/-- The rows the second pipeline reads: those, collected along the edges. -/
theorem collected1_eq (v : Fin 100000) (j : Fin 128) : ((W13 m ρ c (Proc.devRef .tc main_v76) : FVec Ideal S100000x128 .f32) (ix2 v j) : EReal)
    = collect (srcs m ρ c) (dsts m ρ c) (scale (srcs m ρ c) (dsts m ρ c) (lin (argX m c) (argW1 m c) (argB1 m c))) v j := by
  have e : ((W13 m ρ c (Proc.devRef .tc main_v76) : FVec Ideal S100000x128 .f32) (ix2 v j) : EReal) = _ :=
    (congrFun (collect1_read (W12 m ρ c)) _).trans (twice_apply _ rfl rfl rfl rfl _ rfl rfl rfl rfl rfl _ _ _ v j)
  rw [src12, dst12] at e
  exact e.trans (congrFun (congrFun (congrArg (collect _ _) (funext fun u => funext fun k => first_eq m ρ c u k)) v) j)

/-- The second pipeline's result: the second linear layer of the rectified scaled rows, scaled. -/
theorem second_eq (v : Fin 100000) (j : Fin 64) : ((W14 m ρ c (Proc.devRef .tc main_v79) : FVec Ideal S100000x64 .f32) (ix2 v j) : EReal)
    = scale (srcs m ρ c) (dsts m ρ c) (lin (relu (scale (srcs m ρ c) (dsts m ρ c) (collect (srcs m ρ c) (dsts m ρ c)
        (scale (srcs m ρ c) (dsts m ρ c) (lin (argX m c) (argW1 m c) (argB1 m c)))))) (argW2 m c) (argB2 m c)) v j := by
  have e : (W14 m ρ c (Proc.devRef .tc main_v79) : FVec Ideal S100000x64 .f32) = Blocks.G1 (V13 m ρ) c :=
    (W14_arr m ρ c 4).trans (Blocks.region1 (V13 m ρ) c)
  have ew : (V13 m ρ c main_arg4 : FVec Ideal S128x64 .f32) = m ((c : Thread nD τ).loc main_arg4) := W13_args m ρ c _ (by decide)
  have eb : (V13 m ρ c main_v77 : FVec Ideal S1x64 .f32) (ix2 0 j) = argB2 m c j :=
    (bias1_read (W12 m ρ c) j).trans (congrFun (W12_args m ρ c main_arg5 (by decide)) _)
  have ef : (V13 m ρ c main_v78 : FVec Ideal S100000x1 .f32) (ix2 v 0) = inv (srcs m ρ c) (dsts m ρ c) v :=
    (congrFun (column1_read (W12 m ρ c)) _).trans ((column_apply _ v).trans ((congrFun (fac12 m ρ c) _).trans (factor11 m ρ c v)))
  exact (congrFun e _).trans (Blocks.linScale_of _ _ _ _ v j (fun k => Blocks.reluScale_of _ _ v k (collected1_eq m ρ c v k) ef) (fun _ => congrFun ew _) eb ef)

/-- The program's result: the network of the arguments over the edges. -/
theorem result_eq (v : Fin 100000) (j : Fin 64) : ((W16 m ρ c (Proc.devRef .tc main_v109) : FVec Ideal S100000x64 .f32) (ix2 v j) : EReal)
    = kernelNet (srcs m ρ c) (dsts m ρ c) (argX m c) (argW1 m c) (argB1 m c) (argW2 m c) (argB2 m c) v j := by
  have e : (W16 m ρ c (Proc.devRef .tc main_v109) : FVec Ideal S100000x64 .f32) = Blocks.G2 (V15 m ρ) c :=
    (W16_arr m ρ c 2).trans (Blocks.region2 (V15 m ρ) c)
  have ef : (V15 m ρ c main_v108 : FVec Ideal S100000x1 .f32) (ix2 v 0) = inv (srcs m ρ c) (dsts m ρ c) v :=
    (congrFun (column2_read (W14 m ρ c)) _).trans ((column_apply _ v).trans ((congrFun (fac14 m ρ c) _).trans (factor11 m ρ c v)))
  have ec : ((V15 m ρ c main_v107 : FVec Ideal S100000x64 .f32) (ix2 v j) : EReal) = _ :=
    (congrFun (collect2_read (W14 m ρ c)) _).trans (twice_apply _ rfl rfl rfl rfl _ rfl rfl rfl rfl rfl _ _ _ v j)
  rw [src14, dst14] at ec
  exact (congrFun e _).trans (Blocks.rowScale_of _ _ v j
    (ec.trans (congrFun (congrFun (congrArg (collect _ _) (funext fun u => funext fun k => second_eq m ρ c u k)) v) j)) ef)

end Chain

end Cert.Proof.KernelValue

end
-- ==== Proof.RefRun.lean ====
/- The REFERENCE program's run. @main of ReferenceIdeal.lean is a straight line of StableHLO operations; they are listed here
   in sixteen groups, one per step of the computation, so that the value of each step can be read off on its own
   (RefRead.lean). The run itself is the library's `StableHlo.run_seq`: every execution ends with each buffer at the
   operations' results folded over the launch contents (`run_main`), and so with the argument arrays as launched (`R16_args`). -/
module

public import proofs.«01_k».proof.Defs
public import proofs.«01_k».proof.Proof.Gen.ReferenceIdeal
public import Idealize.ShloMosaic.Lib.StableHlo.Run

@[expose] public section

set_option maxRecDepth 4000

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Operations of @main: the gathered neighbours and their pairwise squared distances. -/
abbrev pairOps : List (HloOp τ sig (Elt F)) :=
  [ StableHlo.nullary main_c (constantI S_ 32 0#32),
    StableHlo.unary main_c main_v0 (broadcastInDim S100000x8 ![] bcast_S_S100000x8 : (⟨S_, .i32⟩ : BufTy).Contents (Elt F) → (⟨S100000x8, .i32⟩ : BufTy).Contents (Elt F)),
    StableHlo.binary main_arg1 main_v0 main_v1 (cmpi .slt : (⟨S100000x8, .i32⟩ : BufTy).Contents (Elt F) → (⟨S100000x8, .i32⟩ : BufTy).Contents (Elt F) → (⟨S100000x8, .i1⟩ : BufTy).Contents (Elt F)),
    StableHlo.nullary main_c_0 (constantI S_ 32 100000#32),
    StableHlo.unary main_c_0 main_v2 (broadcastInDim S100000x8 ![] bcast_S_S100000x8 : (⟨S_, .i32⟩ : BufTy).Contents (Elt F) → (⟨S100000x8, .i32⟩ : BufTy).Contents (Elt F)),
    StableHlo.binary main_arg1 main_v2 main_v3 (addi : (⟨S100000x8, .i32⟩ : BufTy).Contents (Elt F) → (⟨S100000x8, .i32⟩ : BufTy).Contents (Elt F) → (⟨S100000x8, .i32⟩ : BufTy).Contents (Elt F)),
    StableHlo.ternary main_v1 main_v3 main_arg1 main_v4 (select : (⟨S100000x8, .i1⟩ : BufTy).Contents (Elt F) → (⟨S100000x8, .i32⟩ : BufTy).Contents (Elt F) → (⟨S100000x8, .i32⟩ : BufTy).Contents (Elt F) → (⟨S100000x8, .i32⟩ : BufTy).Contents (Elt F)),
    StableHlo.unary main_v4 main_v5 (broadcastInDim S100000x8x1 ![0, 1] bcast_S100000x8_S100000x8x1_0_1 : (⟨S100000x8, .i32⟩ : BufTy).Contents (Elt F) → (⟨S100000x8x1, .i32⟩ : BufTy).Contents (Elt F)),
    StableHlo.binary main_arg0 main_v5 main_v6 ((fun x i => Host.gather gather_S100000x128_S100000x8x1_S100000x8x128_2_0_n_n_0_2_1128 x i) : (⟨S100000x128, .f32⟩ : BufTy).Contents (Elt F) → (⟨S100000x8x1, .i32⟩ : BufTy).Contents (Elt F) → (⟨S100000x8x128, .f32⟩ : BufTy).Contents (Elt F)),
    StableHlo.binary main_v6 main_v6 main_v7 (mulf : (⟨S100000x8x128, .f32⟩ : BufTy).Contents (Elt F) → (⟨S100000x8x128, .f32⟩ : BufTy).Contents (Elt F) → (⟨S100000x8x128, .f32⟩ : BufTy).Contents (Elt F)),
    StableHlo.nullary main_cst (constant S_ .f32 0x00000000#32),
    StableHlo.binary main_v7 main_cst main_v8 ((fun x v => Host.reduceAdd x v reducesTo_S100000x8x128_S100000x8_d2 h_S_) : (⟨S100000x8x128, .f32⟩ : BufTy).Contents (Elt F) → (⟨S_, .f32⟩ : BufTy).Contents (Elt F) → (⟨S100000x8, .f32⟩ : BufTy).Contents (Elt F)),
    StableHlo.binary main_v6 main_v6 main_v9 ((fun l r => Host.dotGeneral dot_S100000x8x128_S100000x8x128_S100000x8x8_2_2_1_1_0_0 none l r) : (⟨S100000x8x128, .f32⟩ : BufTy).Contents (Elt F) → (⟨S100000x8x128, .f32⟩ : BufTy).Contents (Elt F) → (⟨S100000x8x8, .f32⟩ : BufTy).Contents (Elt F)),
    StableHlo.unary main_v8 main_v10 (broadcastInDim S100000x8x1 ![0, 1] bcast_S100000x8_S100000x8x1_0_1 : (⟨S100000x8, .f32⟩ : BufTy).Contents (Elt F) → (⟨S100000x8x1, .f32⟩ : BufTy).Contents (Elt F)),
    StableHlo.unary main_v8 main_v11 (broadcastInDim S100000x1x8 ![0, 2] bcast_S100000x8_S100000x1x8_0_2 : (⟨S100000x8, .f32⟩ : BufTy).Contents (Elt F) → (⟨S100000x1x8, .f32⟩ : BufTy).Contents (Elt F)),
    StableHlo.unary main_v10 main_v12 (broadcastInDim S100000x8x8 ![0, 1, 2] bcast_S100000x8x1_S100000x8x8_0_1_2 : (⟨S100000x8x1, .f32⟩ : BufTy).Contents (Elt F) → (⟨S100000x8x8, .f32⟩ : BufTy).Contents (Elt F)),
    StableHlo.unary main_v11 main_v13 (broadcastInDim S100000x8x8 ![0, 1, 2] bcast_S100000x1x8_S100000x8x8_0_1_2 : (⟨S100000x1x8, .f32⟩ : BufTy).Contents (Elt F) → (⟨S100000x8x8, .f32⟩ : BufTy).Contents (Elt F)),
    StableHlo.binary main_v12 main_v13 main_v14 (addf : (⟨S100000x8x8, .f32⟩ : BufTy).Contents (Elt F) → (⟨S100000x8x8, .f32⟩ : BufTy).Contents (Elt F) → (⟨S100000x8x8, .f32⟩ : BufTy).Contents (Elt F)),
    StableHlo.nullary main_cst_1 (constant S_ .f32 0x40000000#32),
    StableHlo.unary main_cst_1 main_v15 (broadcastInDim S100000x8x8 ![] bcast_S_S100000x8x8 : (⟨S_, .f32⟩ : BufTy).Contents (Elt F) → (⟨S100000x8x8, .f32⟩ : BufTy).Contents (Elt F)),
    StableHlo.binary main_v15 main_v9 main_v16 (mulf : (⟨S100000x8x8, .f32⟩ : BufTy).Contents (Elt F) → (⟨S100000x8x8, .f32⟩ : BufTy).Contents (Elt F) → (⟨S100000x8x8, .f32⟩ : BufTy).Contents (Elt F)),
    StableHlo.binary main_v14 main_v16 main_v17 (subf : (⟨S100000x8x8, .f32⟩ : BufTy).Contents (Elt F) → (⟨S100000x8x8, .f32⟩ : BufTy).Contents (Elt F) → (⟨S100000x8x8, .f32⟩ : BufTy).Contents (Elt F)),
    StableHlo.reshape main_v17 main_v18 (rfl : (.f32 : EltTy) = .f32) shapeCasts_S100000x8x8_S100000x64 ]

/-- Operations of @main: the position of the largest distance among the 64 pairs. -/
abbrev farOps : List (HloOp τ sig (Elt F)) :=
  [ StableHlo.TRef.nullary (.of main_call0_v0 : StableHlo.TRef sig ⟨S100000x64, .i32⟩) (iotaInDim S100000x64 32 1),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v18 : StableHlo.TRef sig ⟨S100000x64, .f32⟩) (.of main_call0_v0 : StableHlo.TRef sig ⟨S100000x64, .i32⟩) (.of main_call0_cst : StableHlo.TRef sig ⟨S_, .f32⟩) (.of main_call0_c : StableHlo.TRef sig ⟨S_, .i32⟩) (.of main_call0_v1_0 : StableHlo.TRef sig ⟨S100000, .f32⟩) (fun x y u v j => (Host.argReduce reducer_argmax_f32_i32 x y u v reducesTo_S100000x64_S100000_d1 h_S_ j).1),
    StableHlo.TRef.quaternary (.of main_v18 : StableHlo.TRef sig ⟨S100000x64, .f32⟩) (.of main_call0_v0 : StableHlo.TRef sig ⟨S100000x64, .i32⟩) (.of main_call0_cst : StableHlo.TRef sig ⟨S_, .f32⟩) (.of main_call0_c : StableHlo.TRef sig ⟨S_, .i32⟩) (.of main_v19 : StableHlo.TRef sig ⟨S100000, .i32⟩) (fun x y u v j => (Host.argReduce reducer_argmax_f32_i32 x y u v reducesTo_S100000x64_S100000_d1 h_S_ j).2) ]

/-- Operations of @main: the constant 8. -/
abbrev eightOps : List (HloOp τ sig (Elt F)) :=
  [ StableHlo.nullary main_c_2 (constantI S_ 32 8#32) ]

/-- Operations of @main: the position divided by 8. -/
abbrev rowOps : List (HloOp τ sig (Elt F)) :=
  [ StableHlo.TRef.unary (.of main_c_2 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S100000, .i32⟩) (broadcastInDim S100000 ![] bcast_S_S100000),
    StableHlo.TRef.binary (.of main_v19 : StableHlo.TRef sig ⟨S100000, .i32⟩) (.of main_call1_v1 : StableHlo.TRef sig ⟨S100000, .i32⟩) (.of main_call1_v2 : StableHlo.TRef sig ⟨S100000, .i32⟩) Host.divsi,
    StableHlo.TRef.unary (.of main_v19 : StableHlo.TRef sig ⟨S100000, .i32⟩) (.of main_call1_v3 : StableHlo.TRef sig ⟨S100000, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S100000, .i32⟩) (broadcastInDim S100000 ![] bcast_S_S100000),
    StableHlo.TRef.binary (.of main_call1_v3 : StableHlo.TRef sig ⟨S100000, .i32⟩) (.of main_call1_v5 : StableHlo.TRef sig ⟨S100000, .i32⟩) (.of main_call1_v6 : StableHlo.TRef sig ⟨S100000, .i1⟩) (cmpi .ne),
    StableHlo.TRef.unary (.of main_call1_v0 : StableHlo.TRef sig ⟨S_, .i32⟩) (.of main_call1_v7 : StableHlo.TRef sig ⟨S100000, .i32⟩) (broadcastInDim S100000 ![] bcast_S_S100000),
    StableHlo.TRef.binary (.of main_v19 : StableHlo.TRef sig ⟨S100000, .i32⟩) (.of main_call1_v7 : StableHlo.TRef sig ⟨S100000, .i32⟩) (.of main_call1_v8 : StableHlo.TRef sig ⟨S100000, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S100000, .i32⟩) (broadcastInDim S100000 ![] bcast_S_S100000),
    StableHlo.TRef.binary (.of main_call1_v8 : StableHlo.TRef sig ⟨S100000, .i32⟩) (.of main_call1_v9 : StableHlo.TRef sig ⟨S100000, .i32⟩) (.of main_call1_v10 : StableHlo.TRef sig ⟨S100000, .i1⟩) (cmpi .ne),
    StableHlo.TRef.binary (.of main_call1_v6 : StableHlo.TRef sig ⟨S100000, .i1⟩) (.of main_call1_v10 : StableHlo.TRef sig ⟨S100000, .i1⟩) (.of main_call1_v11 : StableHlo.TRef sig ⟨S100000, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S100000, .i32⟩) (broadcastInDim S100000 ![] bcast_S_S100000),
    StableHlo.TRef.binary (.of main_call1_v2 : StableHlo.TRef sig ⟨S100000, .i32⟩) (.of main_call1_v12 : StableHlo.TRef sig ⟨S100000, .i32⟩) (.of main_call1_v13 : StableHlo.TRef sig ⟨S100000, .i32⟩) subi,
    StableHlo.TRef.ternary (.of main_call1_v11 : StableHlo.TRef sig ⟨S100000, .i1⟩) (.of main_call1_v13 : StableHlo.TRef sig ⟨S100000, .i32⟩) (.of main_call1_v2 : StableHlo.TRef sig ⟨S100000, .i32⟩) (.of main_v20 : StableHlo.TRef sig ⟨S100000, .i32⟩) select ]

/-- Operations of @main: the constant 8 again. -/
abbrev eightOps2 : List (HloOp τ sig (Elt F)) :=
  [ StableHlo.nullary main_c_3 (constantI S_ 32 8#32) ]

/-- Operations of @main: the position modulo 8. -/
abbrev colOps : List (HloOp τ sig (Elt F)) :=
  [ StableHlo.TRef.unary (.of main_c_3 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary main_call2_call0.v0 (.of main_call2_v3 : StableHlo.TRef sig ⟨S100000, .i32⟩) (broadcastInDim S100000 ![] bcast_S_S100000),
    StableHlo.TRef.binary (.of main_v19 : StableHlo.TRef sig ⟨S100000, .i32⟩) (.of main_call2_v3 : StableHlo.TRef sig ⟨S100000, .i32⟩) (.of main_call2_v4 : StableHlo.TRef sig ⟨S100000, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S100000, .i32⟩) (broadcastInDim S100000 ![] bcast_S_S100000),
    StableHlo.TRef.binary (.of main_call2_v4 : StableHlo.TRef sig ⟨S100000, .i32⟩) (.of main_call2_v5 : StableHlo.TRef sig ⟨S100000, .i32⟩) (.of main_call2_v6 : StableHlo.TRef sig ⟨S100000, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S100000, .i32⟩) (broadcastInDim S100000 ![] bcast_S_S100000),
    StableHlo.TRef.binary (.of main_call2_v4 : StableHlo.TRef sig ⟨S100000, .i32⟩) (.of main_call2_v7 : StableHlo.TRef sig ⟨S100000, .i32⟩) (.of main_call2_v8 : StableHlo.TRef sig ⟨S100000, .i1⟩) (cmpi .slt),
    StableHlo.TRef.nullary (.of main_call2_c_3 : StableHlo.TRef sig ⟨S_, .i32⟩) (constantI S_ 32 0#32),
    StableHlo.TRef.binary main_call2_call0.v0 (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S100000, .i1⟩) (broadcastInDim S100000 ![] bcast_S_S100000),
    StableHlo.TRef.binary (.of main_call2_v8 : StableHlo.TRef sig ⟨S100000, .i1⟩) (.of main_call2_v10 : StableHlo.TRef sig ⟨S100000, .i1⟩) (.of main_call2_v11 : StableHlo.TRef sig ⟨S100000, .i1⟩) (cmpi .ne),
    StableHlo.TRef.binary (.of main_call2_v11 : StableHlo.TRef sig ⟨S100000, .i1⟩) (.of main_call2_v6 : StableHlo.TRef sig ⟨S100000, .i1⟩) (.of main_call2_v12 : StableHlo.TRef sig ⟨S100000, .i1⟩) andi,
    StableHlo.TRef.unary main_call2_call0.v0 (.of main_call2_v13 : StableHlo.TRef sig ⟨S100000, .i32⟩) (broadcastInDim S100000 ![] bcast_S_S100000),
    StableHlo.TRef.binary (.of main_call2_v4 : StableHlo.TRef sig ⟨S100000, .i32⟩) (.of main_call2_v13 : StableHlo.TRef sig ⟨S100000, .i32⟩) (.of main_call2_v14 : StableHlo.TRef sig ⟨S100000, .i32⟩) addi,
    StableHlo.TRef.ternary (.of main_call2_v12 : StableHlo.TRef sig ⟨S100000, .i1⟩) (.of main_call2_v14 : StableHlo.TRef sig ⟨S100000, .i32⟩) (.of main_call2_v4 : StableHlo.TRef sig ⟨S100000, .i32⟩) (.of main_v21 : StableHlo.TRef sig ⟨S100000, .i32⟩) select ]

/-- Operations of @main: the row number as a column array. -/
abbrev rowColOps : List (HloOp τ sig (Elt F)) :=
  [ StableHlo.unary main_v20 main_v22 (broadcastInDim S100000x1 ![0] bcast_S100000_S100000x1_0 : (⟨S100000, .i32⟩ : BufTy).Contents (Elt F) → (⟨S100000x1, .i32⟩ : BufTy).Contents (Elt F)) ]

/-- Operations of @main: the edge source picked from the hyperedge. -/
abbrev srcColOps : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S100000x1, .i32⟩) (broadcastInDim S100000x1 ![] bcast_S_S100000x1),
    StableHlo.TRef.binary (.of main_v22 : StableHlo.TRef sig ⟨S100000x1, .i32⟩) (.of main_call3_v0 : StableHlo.TRef sig ⟨S100000x1, .i32⟩) (.of main_call3_v1 : StableHlo.TRef sig ⟨S100000x1, .i1⟩) (cmpi .slt),
    StableHlo.TRef.nullary (.of main_call3_c_0 : StableHlo.TRef sig ⟨S_, .i32⟩) (constantI S_ 32 8#32),
    StableHlo.TRef.unary (.of main_call3_c_0 : StableHlo.TRef sig ⟨S_, .i32⟩) (.of main_call3_v2 : StableHlo.TRef sig ⟨S100000x1, .i32⟩) (broadcastInDim S100000x1 ![] bcast_S_S100000x1),
    StableHlo.TRef.binary (.of main_v22 : StableHlo.TRef sig ⟨S100000x1, .i32⟩) (.of main_call3_v2 : StableHlo.TRef sig ⟨S100000x1, .i32⟩) (.of main_call3_v3 : StableHlo.TRef sig ⟨S100000x1, .i32⟩) addi,
    StableHlo.TRef.ternary (.of main_call3_v1 : StableHlo.TRef sig ⟨S100000x1, .i1⟩) (.of main_call3_v3 : StableHlo.TRef sig ⟨S100000x1, .i32⟩) (.of main_v22 : StableHlo.TRef sig ⟨S100000x1, .i32⟩) (.of main_call3_v4 : StableHlo.TRef sig ⟨S100000x1, .i32⟩) select,
    StableHlo.TRef.reshape (.of main_call3_v4 : StableHlo.TRef sig ⟨S100000x1, .i32⟩) (.of main_call3_v5 : StableHlo.TRef sig ⟨S100000x1x1, .i32⟩) (rfl : (.i32 : EltTy) = .i32) shapeCasts_S100000x1_S100000x1x1,
    StableHlo.TRef.nullary (.of main_call3_c_1 : StableHlo.TRef sig ⟨S1, .i32⟩) (constantI S1 32 7#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S100000x1x1, .i32⟩) (broadcastInDim S100000x1x1 ![] bcast_S_S100000x1x1),
    StableHlo.TRef.binary (.of main_call3_v5 : StableHlo.TRef sig ⟨S100000x1x1, .i32⟩) (.of main_call3_v6 : StableHlo.TRef sig ⟨S100000x1x1, .i32⟩) (.of main_call3_v7 : StableHlo.TRef sig ⟨S100000x1x1, .i1⟩) (cmpi .sge),
    StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2),
    StableHlo.TRef.unary (.of main_call3_v8 : StableHlo.TRef sig ⟨S1x1x1, .i32⟩) (.of main_call3_v9 : StableHlo.TRef sig ⟨S100000x1x1, .i32⟩) (broadcastInDim S100000x1x1 ![0, 1, 2] bcast_S1x1x1_S100000x1x1_0_1_2),
    StableHlo.TRef.binary (.of main_call3_v5 : StableHlo.TRef sig ⟨S100000x1x1, .i32⟩) (.of main_call3_v9 : StableHlo.TRef sig ⟨S100000x1x1, .i32⟩) (.of main_call3_v10 : StableHlo.TRef sig ⟨S100000x1x1, .i1⟩) (cmpi .sle),
    StableHlo.TRef.binary (.of main_call3_v7 : StableHlo.TRef sig ⟨S100000x1x1, .i1⟩) (.of main_call3_v10 : StableHlo.TRef sig ⟨S100000x1x1, .i1⟩) (.of main_call3_v11 : StableHlo.TRef sig ⟨S100000x1x1, .i1⟩) andi,
    StableHlo.TRef.nullary (.of main_call3_c_3 : StableHlo.TRef sig ⟨S_, .i1⟩) (constantI S_ 1 1#1),
    StableHlo.TRef.binary (.of main_call3_v11 : StableHlo.TRef sig ⟨S100000x1x1, .i1⟩) (.of main_call3_c_3 : StableHlo.TRef sig ⟨S_, .i1⟩) (.of main_call3_v12 : StableHlo.TRef sig ⟨S100000x1, .i1⟩) (fun x v => Host.reduce IntOp.andi x v reducesTo_S100000x1x1_S100000x1_d2 h_S_),
    StableHlo.TRef.binary (.of main_arg1 : StableHlo.TRef sig ⟨S100000x8, .i32⟩) (.of main_call3_v5 : StableHlo.TRef sig ⟨S100000x1x1, .i32⟩) (.of main_call3_v13 : StableHlo.TRef sig ⟨S100000x1, .i32⟩) (fun x i => Host.gather gather_S100000x8_S100000x1x1_S100000x1_n_1_0_0_1_2_11 x i),
    StableHlo.TRef.nullary (.of main_call3_c_4 : StableHlo.TRef sig ⟨S_, .i32⟩) (constantI S_ 32 2147483648#32),
    StableHlo.TRef.unary (.of main_call3_c_4 : StableHlo.TRef sig ⟨S_, .i32⟩) (.of main_call3_v14 : StableHlo.TRef sig ⟨S100000x1, .i32⟩) (broadcastInDim S100000x1 ![] bcast_S_S100000x1),
    StableHlo.TRef.ternary (.of main_call3_v12 : StableHlo.TRef sig ⟨S100000x1, .i1⟩) (.of main_call3_v13 : StableHlo.TRef sig ⟨S100000x1, .i32⟩) (.of main_call3_v14 : StableHlo.TRef sig ⟨S100000x1, .i32⟩) (.of main_v23 : StableHlo.TRef sig ⟨S100000x1, .i32⟩) select ]

/-- Operations of @main: the sources as a vector, the column number as a column array. -/
abbrev srcOps : List (HloOp τ sig (Elt F)) :=
  [ StableHlo.reshape main_v23 main_v24 (rfl : (.i32 : EltTy) = .i32) shapeCasts_S100000x1_S100000,
    StableHlo.unary main_v21 main_v25 (broadcastInDim S100000x1 ![0] bcast_S100000_S100000x1_0 : (⟨S100000, .i32⟩ : BufTy).Contents (Elt F) → (⟨S100000x1, .i32⟩ : BufTy).Contents (Elt F)) ]

/-- Operations of @main: the edge destination picked from the hyperedge. -/
abbrev dstColOps : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S100000x1, .i32⟩) (broadcastInDim S100000x1 ![] bcast_S_S100000x1),
    StableHlo.TRef.binary (.of main_v25 : StableHlo.TRef sig ⟨S100000x1, .i32⟩) (.of main_call4_v0 : StableHlo.TRef sig ⟨S100000x1, .i32⟩) (.of main_call4_v1 : StableHlo.TRef sig ⟨S100000x1, .i1⟩) (cmpi .slt),
    StableHlo.TRef.nullary (.of main_call4_c_0 : StableHlo.TRef sig ⟨S_, .i32⟩) (constantI S_ 32 8#32),
    StableHlo.TRef.unary (.of main_call4_c_0 : StableHlo.TRef sig ⟨S_, .i32⟩) (.of main_call4_v2 : StableHlo.TRef sig ⟨S100000x1, .i32⟩) (broadcastInDim S100000x1 ![] bcast_S_S100000x1),
    StableHlo.TRef.binary (.of main_v25 : StableHlo.TRef sig ⟨S100000x1, .i32⟩) (.of main_call4_v2 : StableHlo.TRef sig ⟨S100000x1, .i32⟩) (.of main_call4_v3 : StableHlo.TRef sig ⟨S100000x1, .i32⟩) addi,
    StableHlo.TRef.ternary (.of main_call4_v1 : StableHlo.TRef sig ⟨S100000x1, .i1⟩) (.of main_call4_v3 : StableHlo.TRef sig ⟨S100000x1, .i32⟩) (.of main_v25 : StableHlo.TRef sig ⟨S100000x1, .i32⟩) (.of main_call4_v4 : StableHlo.TRef sig ⟨S100000x1, .i32⟩) select,
    StableHlo.TRef.reshape (.of main_call4_v4 : StableHlo.TRef sig ⟨S100000x1, .i32⟩) (.of main_call4_v5 : StableHlo.TRef sig ⟨S100000x1x1, .i32⟩) (rfl : (.i32 : EltTy) = .i32) shapeCasts_S100000x1_S100000x1x1,
    StableHlo.TRef.nullary (.of main_call4_c_1 : StableHlo.TRef sig ⟨S1, .i32⟩) (constantI S1 32 7#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S100000x1x1, .i32⟩) (broadcastInDim S100000x1x1 ![] bcast_S_S100000x1x1),
    StableHlo.TRef.binary (.of main_call4_v5 : StableHlo.TRef sig ⟨S100000x1x1, .i32⟩) (.of main_call4_v6 : StableHlo.TRef sig ⟨S100000x1x1, .i32⟩) (.of main_call4_v7 : StableHlo.TRef sig ⟨S100000x1x1, .i1⟩) (cmpi .sge),
    StableHlo.TRef.unary (.of main_call4_c_1 : StableHlo.TRef sig ⟨S1, .i32⟩) (.of main_call4_v8 : StableHlo.TRef sig ⟨S1x1x1, .i32⟩) (broadcastInDim S1x1x1 ![2] bcast_S1_S1x1x1_2),
    StableHlo.TRef.unary (.of main_call4_v8 : StableHlo.TRef sig ⟨S1x1x1, .i32⟩) (.of main_call4_v9 : StableHlo.TRef sig ⟨S100000x1x1, .i32⟩) (broadcastInDim S100000x1x1 ![0, 1, 2] bcast_S1x1x1_S100000x1x1_0_1_2),
    StableHlo.TRef.binary (.of main_call4_v5 : StableHlo.TRef sig ⟨S100000x1x1, .i32⟩) (.of main_call4_v9 : StableHlo.TRef sig ⟨S100000x1x1, .i32⟩) (.of main_call4_v10 : StableHlo.TRef sig ⟨S100000x1x1, .i1⟩) (cmpi .sle),
    StableHlo.TRef.binary (.of main_call4_v7 : StableHlo.TRef sig ⟨S100000x1x1, .i1⟩) (.of main_call4_v10 : StableHlo.TRef sig ⟨S100000x1x1, .i1⟩) (.of main_call4_v11 : StableHlo.TRef sig ⟨S100000x1x1, .i1⟩) andi,
    StableHlo.TRef.nullary (.of main_call4_c_3 : StableHlo.TRef sig ⟨S_, .i1⟩) (constantI S_ 1 1#1),
    StableHlo.TRef.binary (.of main_call4_v11 : StableHlo.TRef sig ⟨S100000x1x1, .i1⟩) (.of main_call4_c_3 : StableHlo.TRef sig ⟨S_, .i1⟩) (.of main_call4_v12 : StableHlo.TRef sig ⟨S100000x1, .i1⟩) (fun x v => Host.reduce IntOp.andi x v reducesTo_S100000x1x1_S100000x1_d2 h_S_),
    StableHlo.TRef.binary (.of main_arg1 : StableHlo.TRef sig ⟨S100000x8, .i32⟩) (.of main_call4_v5 : StableHlo.TRef sig ⟨S100000x1x1, .i32⟩) (.of main_call4_v13 : StableHlo.TRef sig ⟨S100000x1, .i32⟩) (fun x i => Host.gather gather_S100000x8_S100000x1x1_S100000x1_n_1_0_0_1_2_11 x i),
    StableHlo.TRef.nullary (.of main_call4_c_4 : StableHlo.TRef sig ⟨S_, .i32⟩) (constantI S_ 32 2147483648#32),
    StableHlo.TRef.unary (.of main_call4_c_4 : StableHlo.TRef sig ⟨S_, .i32⟩) (.of main_call4_v14 : StableHlo.TRef sig ⟨S100000x1, .i32⟩) (broadcastInDim S100000x1 ![] bcast_S_S100000x1),
    StableHlo.TRef.ternary (.of main_call4_v12 : StableHlo.TRef sig ⟨S100000x1, .i1⟩) (.of main_call4_v13 : StableHlo.TRef sig ⟨S100000x1, .i32⟩) (.of main_call4_v14 : StableHlo.TRef sig ⟨S100000x1, .i32⟩) (.of main_v26 : StableHlo.TRef sig ⟨S100000x1, .i32⟩) select ]

/-- Operations of @main: the destinations as a vector; both edge directions and the self loops put in a row. -/
abbrev edgeOps : List (HloOp τ sig (Elt F)) :=
  [ StableHlo.reshape main_v26 main_v27 (rfl : (.i32 : EltTy) = .i32) shapeCasts_S100000x1_S100000,
    StableHlo.nullary main_v28 (iotaInDim S100000 32 0),
    StableHlo.nary ![main_v24, main_v27, main_v28] main_v29 (fun u => (concatenate S300000 0 [⟨S100000, (u 0 : (⟨S100000, .i32⟩ : BufTy).Contents (Elt F))⟩, ⟨S100000, (u 1 : (⟨S100000, .i32⟩ : BufTy).Contents (Elt F))⟩, ⟨S100000, (u 2 : (⟨S100000, .i32⟩ : BufTy).Contents (Elt F))⟩] concatenates_S100000_S100000_S100000_S300000_d0 : (⟨S300000, .i32⟩ : BufTy).Contents (Elt F))),
    StableHlo.nary ![main_v27, main_v24, main_v28] main_v30 (fun u => (concatenate S300000 0 [⟨S100000, (u 0 : (⟨S100000, .i32⟩ : BufTy).Contents (Elt F))⟩, ⟨S100000, (u 1 : (⟨S100000, .i32⟩ : BufTy).Contents (Elt F))⟩, ⟨S100000, (u 2 : (⟨S100000, .i32⟩ : BufTy).Contents (Elt F))⟩] concatenates_S100000_S100000_S100000_S300000_d0 : (⟨S300000, .i32⟩ : BufTy).Contents (Elt F))) ]

/-- Operations of @main: the degrees and their reciprocal square roots. -/
abbrev degOps : List (HloOp τ sig (Elt F)) :=
  [ StableHlo.nullary main_cst_4 (constant S_ .f32 0x00000000#32),
    StableHlo.unary main_cst_4 main_v31 (broadcastInDim S100000 ![] bcast_S_S100000 : (⟨S_, .f32⟩ : BufTy).Contents (Elt F) → (⟨S100000, .f32⟩ : BufTy).Contents (Elt F)),
    StableHlo.nullary main_c_5 (constantI S_ 32 0#32),
    StableHlo.unary main_c_5 main_v32 (broadcastInDim S300000 ![] bcast_S_S300000 : (⟨S_, .i32⟩ : BufTy).Contents (Elt F) → (⟨S300000, .i32⟩ : BufTy).Contents (Elt F)),
    StableHlo.binary main_v30 main_v32 main_v33 (cmpi .slt : (⟨S300000, .i32⟩ : BufTy).Contents (Elt F) → (⟨S300000, .i32⟩ : BufTy).Contents (Elt F) → (⟨S300000, .i1⟩ : BufTy).Contents (Elt F)),
    StableHlo.nullary main_c_6 (constantI S_ 32 100000#32),
    StableHlo.unary main_c_6 main_v34 (broadcastInDim S300000 ![] bcast_S_S300000 : (⟨S_, .i32⟩ : BufTy).Contents (Elt F) → (⟨S300000, .i32⟩ : BufTy).Contents (Elt F)),
    StableHlo.binary main_v30 main_v34 main_v35 (addi : (⟨S300000, .i32⟩ : BufTy).Contents (Elt F) → (⟨S300000, .i32⟩ : BufTy).Contents (Elt F) → (⟨S300000, .i32⟩ : BufTy).Contents (Elt F)),
    StableHlo.ternary main_v33 main_v35 main_v30 main_v36 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v36 main_v37 (broadcastInDim S300000x1 ![0] bcast_S300000_S300000x1_0 : (⟨S300000, .i32⟩ : BufTy).Contents (Elt F) → (⟨S300000x1, .i32⟩ : BufTy).Contents (Elt F)),
    StableHlo.nullary main_cst_7 (constant S_ .f32 0x3F800000#32),
    StableHlo.unary main_cst_7 main_v38 (broadcastInDim S300000 ![] bcast_S_S300000 : (⟨S_, .f32⟩ : BufTy).Contents (Elt F) → (⟨S300000, .f32⟩ : BufTy).Contents (Elt F)),
    StableHlo.ternary main_v31 main_v37 main_v38 main_v39 ((fun x i u => Host.scatterAdd scatter_S100000_S300000x1_S300000_n_0_0_1 x i u) : (⟨S100000, .f32⟩ : BufTy).Contents (Elt F) → (⟨S300000x1, .i32⟩ : BufTy).Contents (Elt F) → (⟨S300000, .f32⟩ : BufTy).Contents (Elt F) → (⟨S100000, .f32⟩ : BufTy).Contents (Elt F)),
    StableHlo.nullary main_cst_8 (constant S_ .f32 0x3F800000#32),
    StableHlo.unary main_cst_8 main_v40 (broadcastInDim S100000 ![] bcast_S_S100000 : (⟨S_, .f32⟩ : BufTy).Contents (Elt F) → (⟨S100000, .f32⟩ : BufTy).Contents (Elt F)),
    StableHlo.binary main_v39 main_v40 main_v41 (maximumf : (⟨S100000, .f32⟩ : BufTy).Contents (Elt F) → (⟨S100000, .f32⟩ : BufTy).Contents (Elt F) → (⟨S100000, .f32⟩ : BufTy).Contents (Elt F)),
    StableHlo.unary main_v41 main_v42 (Host.rsqrt : (⟨S100000, .f32⟩ : BufTy).Contents (Elt F) → (⟨S100000, .f32⟩ : BufTy).Contents (Elt F)) ]

/-- Operations of @main: one weight per edge. -/
abbrev weightOps : List (HloOp τ sig (Elt F)) :=
  [ StableHlo.nullary main_c_9 (constantI S_ 32 0#32),
    StableHlo.unary main_c_9 main_v43 (broadcastInDim S300000 ![] bcast_S_S300000 : (⟨S_, .i32⟩ : BufTy).Contents (Elt F) → (⟨S300000, .i32⟩ : BufTy).Contents (Elt F)),
    StableHlo.binary main_v29 main_v43 main_v44 (cmpi .slt : (⟨S300000, .i32⟩ : BufTy).Contents (Elt F) → (⟨S300000, .i32⟩ : BufTy).Contents (Elt F) → (⟨S300000, .i1⟩ : BufTy).Contents (Elt F)),
    StableHlo.nullary main_c_10 (constantI S_ 32 100000#32),
    StableHlo.unary main_c_10 main_v45 (broadcastInDim S300000 ![] bcast_S_S300000 : (⟨S_, .i32⟩ : BufTy).Contents (Elt F) → (⟨S300000, .i32⟩ : BufTy).Contents (Elt F)),
    StableHlo.binary main_v29 main_v45 main_v46 (addi : (⟨S300000, .i32⟩ : BufTy).Contents (Elt F) → (⟨S300000, .i32⟩ : BufTy).Contents (Elt F) → (⟨S300000, .i32⟩ : BufTy).Contents (Elt F)),
    StableHlo.ternary main_v44 main_v46 main_v29 main_v47 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v47 main_v48 (broadcastInDim S300000x1 ![0] bcast_S300000_S300000x1_0 : (⟨S300000, .i32⟩ : BufTy).Contents (Elt F) → (⟨S300000x1, .i32⟩ : BufTy).Contents (Elt F)),
    StableHlo.binary main_v42 main_v48 main_v49 ((fun x i => Host.gather gather_S100000_S300000x1_S300000_n_0_n_n_0_1_1 x i) : (⟨S100000, .f32⟩ : BufTy).Contents (Elt F) → (⟨S300000x1, .i32⟩ : BufTy).Contents (Elt F) → (⟨S300000, .f32⟩ : BufTy).Contents (Elt F)),
    StableHlo.nullary main_c_11 (constantI S_ 32 0#32),
    StableHlo.unary main_c_11 main_v50 (broadcastInDim S300000 ![] bcast_S_S300000 : (⟨S_, .i32⟩ : BufTy).Contents (Elt F) → (⟨S300000, .i32⟩ : BufTy).Contents (Elt F)),
    StableHlo.binary main_v30 main_v50 main_v51 (cmpi .slt : (⟨S300000, .i32⟩ : BufTy).Contents (Elt F) → (⟨S300000, .i32⟩ : BufTy).Contents (Elt F) → (⟨S300000, .i1⟩ : BufTy).Contents (Elt F)),
    StableHlo.nullary main_c_12 (constantI S_ 32 100000#32),
    StableHlo.unary main_c_12 main_v52 (broadcastInDim S300000 ![] bcast_S_S300000 : (⟨S_, .i32⟩ : BufTy).Contents (Elt F) → (⟨S300000, .i32⟩ : BufTy).Contents (Elt F)),
    StableHlo.binary main_v30 main_v52 main_v53 (addi : (⟨S300000, .i32⟩ : BufTy).Contents (Elt F) → (⟨S300000, .i32⟩ : BufTy).Contents (Elt F) → (⟨S300000, .i32⟩ : BufTy).Contents (Elt F)),
    StableHlo.ternary main_v51 main_v53 main_v30 main_v54 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v54 main_v55 (broadcastInDim S300000x1 ![0] bcast_S300000_S300000x1_0 : (⟨S300000, .i32⟩ : BufTy).Contents (Elt F) → (⟨S300000x1, .i32⟩ : BufTy).Contents (Elt F)),
    StableHlo.binary main_v42 main_v55 main_v56 ((fun x i => Host.gather gather_S100000_S300000x1_S300000_n_0_n_n_0_1_1 x i) : (⟨S100000, .f32⟩ : BufTy).Contents (Elt F) → (⟨S300000x1, .i32⟩ : BufTy).Contents (Elt F) → (⟨S300000, .f32⟩ : BufTy).Contents (Elt F)),
    StableHlo.binary main_v49 main_v56 main_v57 (mulf : (⟨S300000, .f32⟩ : BufTy).Contents (Elt F) → (⟨S300000, .f32⟩ : BufTy).Contents (Elt F) → (⟨S300000, .f32⟩ : BufTy).Contents (Elt F)) ]

/-- Operations of @main: the first linear layer and its weighted sum over the edges. -/
abbrev layerOps1 : List (HloOp τ sig (Elt F)) :=
  [ StableHlo.binary main_arg0 main_arg2 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v60 main_v61 (addf : (⟨S100000x128, .f32⟩ : BufTy).Contents (Elt F) → (⟨S100000x128, .f32⟩ : BufTy).Contents (Elt F) → (⟨S100000x128, .f32⟩ : BufTy).Contents (Elt F)),
    StableHlo.nullary main_c_13 (constantI S_ 32 0#32),
    StableHlo.unary main_c_13 main_v62 (broadcastInDim S300000 ![] bcast_S_S300000 : (⟨S_, .i32⟩ : BufTy).Contents (Elt F) → (⟨S300000, .i32⟩ : BufTy).Contents (Elt F)),
    StableHlo.binary main_v29 main_v62 main_v63 (cmpi .slt : (⟨S300000, .i32⟩ : BufTy).Contents (Elt F) → (⟨S300000, .i32⟩ : BufTy).Contents (Elt F) → (⟨S300000, .i1⟩ : BufTy).Contents (Elt F)),
    StableHlo.nullary main_c_14 (constantI S_ 32 100000#32),
    StableHlo.unary main_c_14 main_v64 (broadcastInDim S300000 ![] bcast_S_S300000 : (⟨S_, .i32⟩ : BufTy).Contents (Elt F) → (⟨S300000, .i32⟩ : BufTy).Contents (Elt F)),
    StableHlo.binary main_v29 main_v64 main_v65 (addi : (⟨S300000, .i32⟩ : BufTy).Contents (Elt F) → (⟨S300000, .i32⟩ : BufTy).Contents (Elt F) → (⟨S300000, .i32⟩ : BufTy).Contents (Elt F)),
    StableHlo.ternary main_v63 main_v65 main_v29 main_v66 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v66 main_v67 (broadcastInDim S300000x1 ![0] bcast_S300000_S300000x1_0 : (⟨S300000, .i32⟩ : BufTy).Contents (Elt F) → (⟨S300000x1, .i32⟩ : BufTy).Contents (Elt F)),
    StableHlo.binary main_v61 main_v67 main_v68 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    StableHlo.unary main_v57 main_v69 (broadcastInDim S300000x1 ![0] bcast_S300000_S300000x1_0 : (⟨S300000, .f32⟩ : BufTy).Contents (Elt F) → (⟨S300000x1, .f32⟩ : BufTy).Contents (Elt F)),
    StableHlo.unary main_v69 main_v70 (broadcastInDim S300000x128 ![0, 1] bcast_S300000x1_S300000x128_0_1 : (⟨S300000x1, .f32⟩ : BufTy).Contents (Elt F) → (⟨S300000x128, .f32⟩ : BufTy).Contents (Elt F)),
    StableHlo.binary main_v68 main_v70 main_v71 (mulf : (⟨S300000x128, .f32⟩ : BufTy).Contents (Elt F) → (⟨S300000x128, .f32⟩ : BufTy).Contents (Elt F) → (⟨S300000x128, .f32⟩ : BufTy).Contents (Elt F)),
    StableHlo.nullary main_cst_15 (constant S_ .f32 0x00000000#32),
    StableHlo.unary main_cst_15 main_v72 (broadcastInDim S100000x128 ![] bcast_S_S100000x128 : (⟨S_, .f32⟩ : BufTy).Contents (Elt F) → (⟨S100000x128, .f32⟩ : BufTy).Contents (Elt F)),
    StableHlo.nullary main_c_16 (constantI S_ 32 0#32),
    StableHlo.unary main_c_16 main_v73 (broadcastInDim S300000 ![] bcast_S_S300000 : (⟨S_, .i32⟩ : BufTy).Contents (Elt F) → (⟨S300000, .i32⟩ : BufTy).Contents (Elt F)),
    StableHlo.binary main_v30 main_v73 main_v74 (cmpi .slt : (⟨S300000, .i32⟩ : BufTy).Contents (Elt F) → (⟨S300000, .i32⟩ : BufTy).Contents (Elt F) → (⟨S300000, .i1⟩ : BufTy).Contents (Elt F)),
    StableHlo.nullary main_c_17 (constantI S_ 32 100000#32),
    StableHlo.unary main_c_17 main_v75 (broadcastInDim S300000 ![] bcast_S_S300000 : (⟨S_, .i32⟩ : BufTy).Contents (Elt F) → (⟨S300000, .i32⟩ : BufTy).Contents (Elt F)),
    StableHlo.binary main_v30 main_v75 main_v76 (addi : (⟨S300000, .i32⟩ : BufTy).Contents (Elt F) → (⟨S300000, .i32⟩ : BufTy).Contents (Elt F) → (⟨S300000, .i32⟩ : BufTy).Contents (Elt F)),
    StableHlo.ternary main_v74 main_v76 main_v30 main_v77 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v77 main_v78 (broadcastInDim S300000x1 ![0] bcast_S300000_S300000x1_0 : (⟨S300000, .i32⟩ : BufTy).Contents (Elt F) → (⟨S300000x1, .i32⟩ : BufTy).Contents (Elt F)),
    StableHlo.ternary main_v72 main_v78 main_v71 main_v79 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)) ]

/-- Operations of @main: the rectifier between the layers. -/
abbrev reluOps : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x128, .f32⟩) (broadcastInDim S100000x128 ![] bcast_S_S100000x128),
    StableHlo.TRef.binary (.of main_v79 : StableHlo.TRef sig ⟨S100000x128, .f32⟩) (.of main_call5_v0 : StableHlo.TRef sig ⟨S100000x128, .f32⟩) (.of main_v80 : StableHlo.TRef sig ⟨S100000x128, .f32⟩) maximumf ]

/-- Operations of @main: the second linear layer and its weighted sum over the edges. -/
abbrev layerOps2 : List (HloOp τ sig (Elt F)) :=
  [ StableHlo.binary main_v80 main_arg4 main_v81 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg5 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v81 main_v83 main_v84 (addf : (⟨S100000x64, .f32⟩ : BufTy).Contents (Elt F) → (⟨S100000x64, .f32⟩ : BufTy).Contents (Elt F) → (⟨S100000x64, .f32⟩ : BufTy).Contents (Elt F)),
    StableHlo.nullary main_c_18 (constantI S_ 32 0#32),
    StableHlo.unary main_c_18 main_v85 (broadcastInDim S300000 ![] bcast_S_S300000 : (⟨S_, .i32⟩ : BufTy).Contents (Elt F) → (⟨S300000, .i32⟩ : BufTy).Contents (Elt F)),
    StableHlo.binary main_v29 main_v85 main_v86 (cmpi .slt : (⟨S300000, .i32⟩ : BufTy).Contents (Elt F) → (⟨S300000, .i32⟩ : BufTy).Contents (Elt F) → (⟨S300000, .i1⟩ : BufTy).Contents (Elt F)),
    StableHlo.nullary main_c_19 (constantI S_ 32 100000#32),
    StableHlo.unary main_c_19 main_v87 (broadcastInDim S300000 ![] bcast_S_S300000 : (⟨S_, .i32⟩ : BufTy).Contents (Elt F) → (⟨S300000, .i32⟩ : BufTy).Contents (Elt F)),
    StableHlo.binary main_v29 main_v87 main_v88 (addi : (⟨S300000, .i32⟩ : BufTy).Contents (Elt F) → (⟨S300000, .i32⟩ : BufTy).Contents (Elt F) → (⟨S300000, .i32⟩ : BufTy).Contents (Elt F)),
    StableHlo.ternary main_v86 main_v88 main_v29 main_v89 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v89 main_v90 (broadcastInDim S300000x1 ![0] bcast_S300000_S300000x1_0 : (⟨S300000, .i32⟩ : BufTy).Contents (Elt F) → (⟨S300000x1, .i32⟩ : BufTy).Contents (Elt F)),
    StableHlo.binary main_v84 main_v90 main_v91 ((fun x i => Host.gather gather_S100000x64_S300000x1_S300000x64_1_0_n_n_0_1_164 x i) : (⟨S100000x64, .f32⟩ : BufTy).Contents (Elt F) → (⟨S300000x1, .i32⟩ : BufTy).Contents (Elt F) → (⟨S300000x64, .f32⟩ : BufTy).Contents (Elt F)),
    StableHlo.unary main_v57 main_v92 (broadcastInDim S300000x1 ![0] bcast_S300000_S300000x1_0 : (⟨S300000, .f32⟩ : BufTy).Contents (Elt F) → (⟨S300000x1, .f32⟩ : BufTy).Contents (Elt F)),
    StableHlo.unary main_v92 main_v93 (broadcastInDim S300000x64 ![0, 1] bcast_S300000x1_S300000x64_0_1 : (⟨S300000x1, .f32⟩ : BufTy).Contents (Elt F) → (⟨S300000x64, .f32⟩ : BufTy).Contents (Elt F)),
    StableHlo.binary main_v91 main_v93 main_v94 (mulf : (⟨S300000x64, .f32⟩ : BufTy).Contents (Elt F) → (⟨S300000x64, .f32⟩ : BufTy).Contents (Elt F) → (⟨S300000x64, .f32⟩ : BufTy).Contents (Elt F)),
    StableHlo.nullary main_cst_20 (constant S_ .f32 0x00000000#32),
    StableHlo.unary main_cst_20 main_v95 (broadcastInDim S100000x64 ![] bcast_S_S100000x64 : (⟨S_, .f32⟩ : BufTy).Contents (Elt F) → (⟨S100000x64, .f32⟩ : BufTy).Contents (Elt F)),
    StableHlo.nullary main_c_21 (constantI S_ 32 0#32),
    StableHlo.unary main_c_21 main_v96 (broadcastInDim S300000 ![] bcast_S_S300000 : (⟨S_, .i32⟩ : BufTy).Contents (Elt F) → (⟨S300000, .i32⟩ : BufTy).Contents (Elt F)),
    StableHlo.binary main_v30 main_v96 main_v97 (cmpi .slt : (⟨S300000, .i32⟩ : BufTy).Contents (Elt F) → (⟨S300000, .i32⟩ : BufTy).Contents (Elt F) → (⟨S300000, .i1⟩ : BufTy).Contents (Elt F)),
    StableHlo.nullary main_c_22 (constantI S_ 32 100000#32),
    StableHlo.unary main_c_22 main_v98 (broadcastInDim S300000 ![] bcast_S_S300000 : (⟨S_, .i32⟩ : BufTy).Contents (Elt F) → (⟨S300000, .i32⟩ : BufTy).Contents (Elt F)),
    StableHlo.binary main_v30 main_v98 main_v99 (addi : (⟨S300000, .i32⟩ : BufTy).Contents (Elt F) → (⟨S300000, .i32⟩ : BufTy).Contents (Elt F) → (⟨S300000, .i32⟩ : BufTy).Contents (Elt F)),
    StableHlo.ternary main_v97 main_v99 main_v30 main_v100 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v100 main_v101 (broadcastInDim S300000x1 ![0] bcast_S300000_S300000x1_0 : (⟨S300000, .i32⟩ : BufTy).Contents (Elt F) → (⟨S300000x1, .i32⟩ : BufTy).Contents (Elt F)),
    StableHlo.ternary main_v95 main_v101 main_v94 main_v102 ((fun x i u => Host.scatterAdd scatter_S100000x64_S300000x1_S300000x64_1_0_0_1 x i u) : (⟨S100000x64, .f32⟩ : BufTy).Contents (Elt F) → (⟨S300000x1, .i32⟩ : BufTy).Contents (Elt F) → (⟨S300000x64, .f32⟩ : BufTy).Contents (Elt F) → (⟨S100000x64, .f32⟩ : BufTy).Contents (Elt F)) ]

/-- @main's operations, in order. -/
abbrev ops : List (HloOp τ sig (Elt F)) :=
  pairOps ++ (farOps ++ (eightOps ++ (rowOps ++ (eightOps2 ++ (colOps ++ (rowColOps ++ (srcColOps ++ (srcOps ++ (dstColOps ++ (edgeOps ++ (degOps ++ (weightOps ++ (layerOps1 ++ (reluOps ++ (layerOps2)))))))))))))))

/-- @main is that straight line. -/
theorem main_eq (c : Dev nD) : main (F := F) c = seq ops := rfl

theorem pairOps_sub : (pairOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., reshape_bufs_sub ..⟩
theorem pairOps_fresh : (pairOps : List (HloOp τ sig (Elt F))).Forall fun op => op.fresh = ∅ := by
  simp only [List.Forall]; repeat' constructor

theorem farOps_sub : (farOps : List (HloOp τ sig (Elt F))).Forall fun op => op.bufs ⊆ tcRefs τ sig :=
  ⟨nullary_bufs_sub .., nullary_bufs_sub .., nullary_bufs_sub .., quaternary_bufs_sub .., quaternary_bufs_sub ..⟩
theorem farOps_fresh : (farOps : List (HloOp τ sig (Elt F))).Forall fun op => op.fresh = ∅ := by
  simp only [List.Forall]; repeat' constructor

theorem eightOps_sub : (eightOps : List (HloOp τ sig (Elt F))).Forall fun op => op.bufs ⊆ tcRefs τ sig :=
  nullary_bufs_sub ..
theorem eightOps_fresh : (eightOps : List (HloOp τ sig (Elt F))).Forall fun op => op.fresh = ∅ := by
  simp only [List.Forall]; repeat' constructor

theorem rowOps_sub : (rowOps : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem rowOps_fresh : (rowOps : List (HloOp τ sig (Elt F))).Forall fun op => op.fresh = ∅ := by
  simp only [List.Forall]; repeat' constructor

theorem eightOps2_sub : (eightOps2 : List (HloOp τ sig (Elt F))).Forall fun op => op.bufs ⊆ tcRefs τ sig :=
  nullary_bufs_sub ..
theorem eightOps2_fresh : (eightOps2 : List (HloOp τ sig (Elt F))).Forall fun op => op.fresh = ∅ := by
  simp only [List.Forall]; repeat' constructor

theorem colOps_sub : (colOps : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem colOps_fresh : (colOps : List (HloOp τ sig (Elt F))).Forall fun op => op.fresh = ∅ := by
  simp only [List.Forall]; repeat' constructor

theorem rowColOps_sub : (rowColOps : List (HloOp τ sig (Elt F))).Forall fun op => op.bufs ⊆ tcRefs τ sig :=
  unary_bufs_sub ..
theorem rowColOps_fresh : (rowColOps : List (HloOp τ sig (Elt F))).Forall fun op => op.fresh = ∅ := by
  simp only [List.Forall]; repeat' constructor

theorem srcColOps_sub : (srcColOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem srcColOps_fresh : (srcColOps : List (HloOp τ sig (Elt F))).Forall fun op => op.fresh = ∅ := by
  simp only [List.Forall]; repeat' constructor

theorem srcOps_sub : (srcOps : List (HloOp τ sig (Elt F))).Forall fun op => op.bufs ⊆ tcRefs τ sig :=
  ⟨reshape_bufs_sub .., unary_bufs_sub ..⟩
theorem srcOps_fresh : (srcOps : List (HloOp τ sig (Elt F))).Forall fun op => op.fresh = ∅ := by
  simp only [List.Forall]; repeat' constructor

theorem dstColOps_sub : (dstColOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem dstColOps_fresh : (dstColOps : List (HloOp τ sig (Elt F))).Forall fun op => op.fresh = ∅ := by
  simp only [List.Forall]; repeat' constructor

theorem edgeOps_sub : (edgeOps : List (HloOp τ sig (Elt F))).Forall fun op => op.bufs ⊆ tcRefs τ sig :=
  ⟨reshape_bufs_sub .., nullary_bufs_sub .., nary_bufs_sub .., nary_bufs_sub ..⟩
theorem edgeOps_fresh : (edgeOps : List (HloOp τ sig (Elt F))).Forall fun op => op.fresh = ∅ := by
  simp only [List.Forall]; repeat' constructor

theorem degOps_sub : (degOps : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub ..⟩
theorem degOps_fresh : (degOps : List (HloOp τ sig (Elt F))).Forall fun op => op.fresh = ∅ := by
  simp only [List.Forall]; repeat' constructor

theorem weightOps_sub : (weightOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem weightOps_fresh : (weightOps : List (HloOp τ sig (Elt F))).Forall fun op => op.fresh = ∅ := by
  simp only [List.Forall]; repeat' constructor

theorem layerOps1_sub : (layerOps1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
theorem layerOps1_fresh : (layerOps1 : List (HloOp τ sig (Elt F))).Forall fun op => op.fresh = ∅ := by
  simp only [List.Forall]; repeat' constructor

theorem reluOps_sub : (reluOps : List (HloOp τ sig (Elt F))).Forall fun op => op.bufs ⊆ tcRefs τ sig :=
  ⟨nullary_bufs_sub .., unary_bufs_sub .., binary_bufs_sub ..⟩
theorem reluOps_fresh : (reluOps : List (HloOp τ sig (Elt F))).Forall fun op => op.fresh = ∅ := by
  simp only [List.Forall]; repeat' constructor

theorem layerOps2_sub : (layerOps2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
theorem layerOps2_fresh : (layerOps2 : List (HloOp τ sig (Elt F))).Forall fun op => op.fresh = ∅ := by
  simp only [List.Forall]; repeat' constructor

/-- What `pairOps` write, in order. -/
abbrev pairOps_W : List (Ref sig .tc) := [main_c, main_v0, main_v1, main_c_0, main_v2, main_v3, main_v4, main_v5, main_v6, main_v7, main_cst, main_v8, main_v9, main_v10, main_v11, main_v12, main_v13, main_v14, main_cst_1, main_v15, main_v16, main_v17, main_v18]
theorem pairOps_writes : (pairOps : List (HloOp τ sig (Elt F))).Forall fun op => op.writes ⊆ (pairOps_W.map (Proc.devRef (τ := τ) .tc)).toFinset :=
  forall_writes_sub_of_map rfl

/-- What `farOps` write, in order. -/
abbrev farOps_W : List (Ref sig .tc) := [main_call0_v0, main_call0_cst, main_call0_c, main_call0_v1_0, main_v19]
theorem farOps_writes : (farOps : List (HloOp τ sig (Elt F))).Forall fun op => op.writes ⊆ (farOps_W.map (Proc.devRef (τ := τ) .tc)).toFinset :=
  forall_writes_sub_of_map rfl

/-- What `eightOps` write, in order. -/
abbrev eightOps_W : List (Ref sig .tc) := [main_c_2]
theorem eightOps_writes : (eightOps : List (HloOp τ sig (Elt F))).Forall fun op => op.writes ⊆ (eightOps_W.map (Proc.devRef (τ := τ) .tc)).toFinset :=
  forall_writes_sub_of_map rfl

/-- What `rowOps` write, in order. -/
abbrev rowOps_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v20]
theorem rowOps_writes : (rowOps : List (HloOp τ sig (Elt F))).Forall fun op => op.writes ⊆ (rowOps_W.map (Proc.devRef (τ := τ) .tc)).toFinset :=
  forall_writes_sub_of_map rfl

/-- What `eightOps2` write, in order. -/
abbrev eightOps2_W : List (Ref sig .tc) := [main_c_3]
theorem eightOps2_writes : (eightOps2 : List (HloOp τ sig (Elt F))).Forall fun op => op.writes ⊆ (eightOps2_W.map (Proc.devRef (τ := τ) .tc)).toFinset :=
  forall_writes_sub_of_map rfl

/-- What `colOps` write, in order. -/
abbrev colOps_W : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v21]
theorem colOps_writes : (colOps : List (HloOp τ sig (Elt F))).Forall fun op => op.writes ⊆ (colOps_W.map (Proc.devRef (τ := τ) .tc)).toFinset :=
  forall_writes_sub_of_map rfl

/-- What `rowColOps` write, in order. -/
abbrev rowColOps_W : List (Ref sig .tc) := [main_v22]
theorem rowColOps_writes : (rowColOps : List (HloOp τ sig (Elt F))).Forall fun op => op.writes ⊆ (rowColOps_W.map (Proc.devRef (τ := τ) .tc)).toFinset :=
  forall_writes_sub_of_map rfl

/-- What `srcColOps` write, in order. -/
abbrev srcColOps_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_c_4, main_call3_v14, main_v23]
theorem srcColOps_writes : (srcColOps : List (HloOp τ sig (Elt F))).Forall fun op => op.writes ⊆ (srcColOps_W.map (Proc.devRef (τ := τ) .tc)).toFinset :=
  forall_writes_sub_of_map rfl

/-- What `srcOps` write, in order. -/
abbrev srcOps_W : List (Ref sig .tc) := [main_v24, main_v25]
theorem srcOps_writes : (srcOps : List (HloOp τ sig (Elt F))).Forall fun op => op.writes ⊆ (srcOps_W.map (Proc.devRef (τ := τ) .tc)).toFinset :=
  forall_writes_sub_of_map rfl

/-- What `dstColOps` write, in order. -/
abbrev dstColOps_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_c_4, main_call4_v14, main_v26]
theorem dstColOps_writes : (dstColOps : List (HloOp τ sig (Elt F))).Forall fun op => op.writes ⊆ (dstColOps_W.map (Proc.devRef (τ := τ) .tc)).toFinset :=
  forall_writes_sub_of_map rfl

/-- What `edgeOps` write, in order. -/
abbrev edgeOps_W : List (Ref sig .tc) := [main_v27, main_v28, main_v29, main_v30]
theorem edgeOps_writes : (edgeOps : List (HloOp τ sig (Elt F))).Forall fun op => op.writes ⊆ (edgeOps_W.map (Proc.devRef (τ := τ) .tc)).toFinset :=
  forall_writes_sub_of_map rfl

/-- What `degOps` write, in order. -/
abbrev degOps_W : List (Ref sig .tc) := [main_cst_4, main_v31, main_c_5, main_v32, main_v33, main_c_6, main_v34, main_v35, main_v36, main_v37, main_cst_7, main_v38, main_v39, main_cst_8, main_v40, main_v41, main_v42]
theorem degOps_writes : (degOps : List (HloOp τ sig (Elt F))).Forall fun op => op.writes ⊆ (degOps_W.map (Proc.devRef (τ := τ) .tc)).toFinset :=
  forall_writes_sub_of_map rfl

/-- What `weightOps` write, in order. -/
abbrev weightOps_W : List (Ref sig .tc) := [main_c_9, main_v43, main_v44, main_c_10, main_v45, main_v46, main_v47, main_v48, main_v49, main_c_11, main_v50, main_v51, main_c_12, main_v52, main_v53, main_v54, main_v55, main_v56, main_v57]
theorem weightOps_writes : (weightOps : List (HloOp τ sig (Elt F))).Forall fun op => op.writes ⊆ (weightOps_W.map (Proc.devRef (τ := τ) .tc)).toFinset :=
  forall_writes_sub_of_map rfl

/-- What `layerOps1` write, in order. -/
abbrev layerOps1_W : List (Ref sig .tc) := [main_v58, main_v59, main_v60, main_v61, main_c_13, main_v62, main_v63, main_c_14, main_v64, main_v65, main_v66, main_v67, main_v68, main_v69, main_v70, main_v71, main_cst_15, main_v72, main_c_16, main_v73, main_v74, main_c_17, main_v75, main_v76, main_v77, main_v78, main_v79]
theorem layerOps1_writes : (layerOps1 : List (HloOp τ sig (Elt F))).Forall fun op => op.writes ⊆ (layerOps1_W.map (Proc.devRef (τ := τ) .tc)).toFinset :=
  forall_writes_sub_of_map rfl

/-- What `reluOps` write, in order. -/
abbrev reluOps_W : List (Ref sig .tc) := [main_call5_cst, main_call5_v0, main_v80]
theorem reluOps_writes : (reluOps : List (HloOp τ sig (Elt F))).Forall fun op => op.writes ⊆ (reluOps_W.map (Proc.devRef (τ := τ) .tc)).toFinset :=
  forall_writes_sub_of_map rfl

/-- What `layerOps2` write, in order. -/
abbrev layerOps2_W : List (Ref sig .tc) := [main_v81, main_v82, main_v83, main_v84, main_c_18, main_v85, main_v86, main_c_19, main_v87, main_v88, main_v89, main_v90, main_v91, main_v92, main_v93, main_v94, main_cst_20, main_v95, main_c_21, main_v96, main_v97, main_c_22, main_v98, main_v99, main_v100, main_v101, main_v102]
theorem layerOps2_writes : (layerOps2 : List (HloOp τ sig (Elt F))).Forall fun op => op.writes ⊆ (layerOps2_W.map (Proc.devRef (τ := τ) .tc)).toFinset :=
  forall_writes_sub_of_map rfl

/-- The argument arrays. -/
abbrev argRefs : List (Ref sig .tc) := [main_arg0, main_arg1, main_arg2, main_arg3, main_arg4, main_arg5]

/-- Folding two lines is folding the second over the first's result. -/
theorem after_join (l₁ l₂ : List (HloOp τ sig (Elt F))) (V : Valuation τ sig (Elt F)) :
    after (l₁ ++ l₂) V = after l₂ (after l₁ V) := by
  induction l₁ generalizing V with
  | nil => rfl
  | cons op l ih => exact ih _

/-! The buffers' contents after each group, from contents `V`. -/

variable (V : Valuation τ sig (Elt F))

/-- After `pairOps`. -/
abbrev R1 : Valuation τ sig (Elt F) := after pairOps V
theorem R1_of (r : Ref sig .tc) (h : r ∉ pairOps_W) : R1 V (Proc.devRef .tc r) = V (Proc.devRef .tc r) :=
  after_of_writes_sub pairOps _ pairOps_writes h
theorem R1_args : ∀ a ∈ argRefs, R1 V (Proc.devRef .tc a) = V (Proc.devRef .tc a) :=
  fun a ha => (R1_of V a ((by decide +kernel : ∀ a ∈ argRefs, a ∉ pairOps_W) a ha)).trans (rfl)

/-- After `farOps`. -/
abbrev R2 : Valuation τ sig (Elt F) := after farOps (R1 V)
theorem R2_of (r : Ref sig .tc) (h : r ∉ farOps_W) : R2 V (Proc.devRef .tc r) = R1 V (Proc.devRef .tc r) :=
  after_of_writes_sub farOps _ farOps_writes h
theorem R2_args : ∀ a ∈ argRefs, R2 V (Proc.devRef .tc a) = V (Proc.devRef .tc a) :=
  fun a ha => (R2_of V a ((by decide +kernel : ∀ a ∈ argRefs, a ∉ farOps_W) a ha)).trans (R1_args V a ha)

/-- After `eightOps`. -/
abbrev R3 : Valuation τ sig (Elt F) := after eightOps (R2 V)
theorem R3_of (r : Ref sig .tc) (h : r ∉ eightOps_W) : R3 V (Proc.devRef .tc r) = R2 V (Proc.devRef .tc r) :=
  after_of_writes_sub eightOps _ eightOps_writes h
theorem R3_args : ∀ a ∈ argRefs, R3 V (Proc.devRef .tc a) = V (Proc.devRef .tc a) :=
  fun a ha => (R3_of V a ((by decide +kernel : ∀ a ∈ argRefs, a ∉ eightOps_W) a ha)).trans (R2_args V a ha)

/-- After `rowOps`. -/
abbrev R4 : Valuation τ sig (Elt F) := after rowOps (R3 V)
theorem R4_of (r : Ref sig .tc) (h : r ∉ rowOps_W) : R4 V (Proc.devRef .tc r) = R3 V (Proc.devRef .tc r) :=
  after_of_writes_sub rowOps _ rowOps_writes h
theorem R4_args : ∀ a ∈ argRefs, R4 V (Proc.devRef .tc a) = V (Proc.devRef .tc a) :=
  fun a ha => (R4_of V a ((by decide +kernel : ∀ a ∈ argRefs, a ∉ rowOps_W) a ha)).trans (R3_args V a ha)

/-- After `eightOps2`. -/
abbrev R5 : Valuation τ sig (Elt F) := after eightOps2 (R4 V)
theorem R5_of (r : Ref sig .tc) (h : r ∉ eightOps2_W) : R5 V (Proc.devRef .tc r) = R4 V (Proc.devRef .tc r) :=
  after_of_writes_sub eightOps2 _ eightOps2_writes h
theorem R5_args : ∀ a ∈ argRefs, R5 V (Proc.devRef .tc a) = V (Proc.devRef .tc a) :=
  fun a ha => (R5_of V a ((by decide +kernel : ∀ a ∈ argRefs, a ∉ eightOps2_W) a ha)).trans (R4_args V a ha)

/-- After `colOps`. -/
abbrev R6 : Valuation τ sig (Elt F) := after colOps (R5 V)
theorem R6_of (r : Ref sig .tc) (h : r ∉ colOps_W) : R6 V (Proc.devRef .tc r) = R5 V (Proc.devRef .tc r) :=
  after_of_writes_sub colOps _ colOps_writes h
theorem R6_args : ∀ a ∈ argRefs, R6 V (Proc.devRef .tc a) = V (Proc.devRef .tc a) :=
  fun a ha => (R6_of V a ((by decide +kernel : ∀ a ∈ argRefs, a ∉ colOps_W) a ha)).trans (R5_args V a ha)

/-- After `rowColOps`. -/
abbrev R7 : Valuation τ sig (Elt F) := after rowColOps (R6 V)
theorem R7_of (r : Ref sig .tc) (h : r ∉ rowColOps_W) : R7 V (Proc.devRef .tc r) = R6 V (Proc.devRef .tc r) :=
  after_of_writes_sub rowColOps _ rowColOps_writes h
theorem R7_args : ∀ a ∈ argRefs, R7 V (Proc.devRef .tc a) = V (Proc.devRef .tc a) :=
  fun a ha => (R7_of V a ((by decide +kernel : ∀ a ∈ argRefs, a ∉ rowColOps_W) a ha)).trans (R6_args V a ha)

/-- After `srcColOps`. -/
abbrev R8 : Valuation τ sig (Elt F) := after srcColOps (R7 V)
theorem R8_of (r : Ref sig .tc) (h : r ∉ srcColOps_W) : R8 V (Proc.devRef .tc r) = R7 V (Proc.devRef .tc r) :=
  after_of_writes_sub srcColOps _ srcColOps_writes h
theorem R8_args : ∀ a ∈ argRefs, R8 V (Proc.devRef .tc a) = V (Proc.devRef .tc a) :=
  fun a ha => (R8_of V a ((by decide +kernel : ∀ a ∈ argRefs, a ∉ srcColOps_W) a ha)).trans (R7_args V a ha)

/-- After `srcOps`. -/
abbrev R9 : Valuation τ sig (Elt F) := after srcOps (R8 V)
theorem R9_of (r : Ref sig .tc) (h : r ∉ srcOps_W) : R9 V (Proc.devRef .tc r) = R8 V (Proc.devRef .tc r) :=
  after_of_writes_sub srcOps _ srcOps_writes h
theorem R9_args : ∀ a ∈ argRefs, R9 V (Proc.devRef .tc a) = V (Proc.devRef .tc a) :=
  fun a ha => (R9_of V a ((by decide +kernel : ∀ a ∈ argRefs, a ∉ srcOps_W) a ha)).trans (R8_args V a ha)

/-- After `dstColOps`. -/
abbrev R10 : Valuation τ sig (Elt F) := after dstColOps (R9 V)
theorem R10_of (r : Ref sig .tc) (h : r ∉ dstColOps_W) : R10 V (Proc.devRef .tc r) = R9 V (Proc.devRef .tc r) :=
  after_of_writes_sub dstColOps _ dstColOps_writes h
theorem R10_args : ∀ a ∈ argRefs, R10 V (Proc.devRef .tc a) = V (Proc.devRef .tc a) :=
  fun a ha => (R10_of V a ((by decide +kernel : ∀ a ∈ argRefs, a ∉ dstColOps_W) a ha)).trans (R9_args V a ha)

/-- After `edgeOps`. -/
abbrev R11 : Valuation τ sig (Elt F) := after edgeOps (R10 V)
theorem R11_of (r : Ref sig .tc) (h : r ∉ edgeOps_W) : R11 V (Proc.devRef .tc r) = R10 V (Proc.devRef .tc r) :=
  after_of_writes_sub edgeOps _ edgeOps_writes h
theorem R11_args : ∀ a ∈ argRefs, R11 V (Proc.devRef .tc a) = V (Proc.devRef .tc a) :=
  fun a ha => (R11_of V a ((by decide +kernel : ∀ a ∈ argRefs, a ∉ edgeOps_W) a ha)).trans (R10_args V a ha)

/-- After `degOps`. -/
abbrev R12 : Valuation τ sig (Elt F) := after degOps (R11 V)
theorem R12_of (r : Ref sig .tc) (h : r ∉ degOps_W) : R12 V (Proc.devRef .tc r) = R11 V (Proc.devRef .tc r) :=
  after_of_writes_sub degOps _ degOps_writes h
theorem R12_args : ∀ a ∈ argRefs, R12 V (Proc.devRef .tc a) = V (Proc.devRef .tc a) :=
  fun a ha => (R12_of V a ((by decide +kernel : ∀ a ∈ argRefs, a ∉ degOps_W) a ha)).trans (R11_args V a ha)

/-- After `weightOps`. -/
abbrev R13 : Valuation τ sig (Elt F) := after weightOps (R12 V)
theorem R13_of (r : Ref sig .tc) (h : r ∉ weightOps_W) : R13 V (Proc.devRef .tc r) = R12 V (Proc.devRef .tc r) :=
  after_of_writes_sub weightOps _ weightOps_writes h
theorem R13_args : ∀ a ∈ argRefs, R13 V (Proc.devRef .tc a) = V (Proc.devRef .tc a) :=
  fun a ha => (R13_of V a ((by decide +kernel : ∀ a ∈ argRefs, a ∉ weightOps_W) a ha)).trans (R12_args V a ha)

/-- After `layerOps1`. -/
abbrev R14 : Valuation τ sig (Elt F) := after layerOps1 (R13 V)
theorem R14_of (r : Ref sig .tc) (h : r ∉ layerOps1_W) : R14 V (Proc.devRef .tc r) = R13 V (Proc.devRef .tc r) :=
  after_of_writes_sub layerOps1 _ layerOps1_writes h
theorem R14_args : ∀ a ∈ argRefs, R14 V (Proc.devRef .tc a) = V (Proc.devRef .tc a) :=
  fun a ha => (R14_of V a ((by decide +kernel : ∀ a ∈ argRefs, a ∉ layerOps1_W) a ha)).trans (R13_args V a ha)

/-- After `reluOps`. -/
abbrev R15 : Valuation τ sig (Elt F) := after reluOps (R14 V)
theorem R15_of (r : Ref sig .tc) (h : r ∉ reluOps_W) : R15 V (Proc.devRef .tc r) = R14 V (Proc.devRef .tc r) :=
  after_of_writes_sub reluOps _ reluOps_writes h
theorem R15_args : ∀ a ∈ argRefs, R15 V (Proc.devRef .tc a) = V (Proc.devRef .tc a) :=
  fun a ha => (R15_of V a ((by decide +kernel : ∀ a ∈ argRefs, a ∉ reluOps_W) a ha)).trans (R14_args V a ha)

/-- After `layerOps2`. -/
abbrev R16 : Valuation τ sig (Elt F) := after layerOps2 (R15 V)
theorem R16_of (r : Ref sig .tc) (h : r ∉ layerOps2_W) : R16 V (Proc.devRef .tc r) = R15 V (Proc.devRef .tc r) :=
  after_of_writes_sub layerOps2 _ layerOps2_writes h
theorem R16_args : ∀ a ∈ argRefs, R16 V (Proc.devRef .tc a) = V (Proc.devRef .tc a) :=
  fun a ha => (R16_of V a ((by decide +kernel : ∀ a ∈ argRefs, a ∉ layerOps2_W) a ha)).trans (R15_args V a ha)

/-- The whole program's fold is the last of these. -/
theorem after_ops : after ops V = R16 V := by
  simp only [ops, after_join]

omit V

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, List.forall_append]
  exact ⟨pairOps_sub, farOps_sub, eightOps_sub, rowOps_sub, eightOps2_sub, colOps_sub, rowColOps_sub, srcColOps_sub, srcOps_sub, dstColOps_sub, edgeOps_sub, degOps_sub, weightOps_sub, layerOps1_sub, reluOps_sub, layerOps2_sub⟩

/-- No operation allocates a buffer. -/
theorem ops_fresh : (ops : List (HloOp τ sig (Elt F))).Forall fun op => op.fresh = ∅ := by
  simp only [ops, List.forall_append]
  exact ⟨pairOps_fresh, farOps_fresh, eightOps_fresh, rowOps_fresh, eightOps2_fresh, colOps_fresh, rowColOps_fresh, srcColOps_fresh, srcOps_fresh, dstColOps_fresh, edgeOps_fresh, degOps_fresh, weightOps_fresh, layerOps1_fresh, reluOps_fresh, layerOps2_fresh⟩

/-- From any memory with zero counters every weakly fair execution of @main terminates, and every final state has each
    buffer at the program's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R16 (launchContents m c) (Proc.devRef .tc b) :=
  (θ_run defs _ _).mono (fun _ h c b => (h c b).trans (congrFun (after_ops _) _))
    (run_seq scopedRefs_eq scopedSems_eq defs main (fun _ => ops) main_eq (fun _ => ops_sub) m ρ
      (fun _ op h => List.forall_iff_forall_mem.1 ops_fresh op h))

end Cert.Proof.Ref

end
-- ==== Proof.Prefix.lean ====
/- The steps the two programs share, at the ideal instance. Both compute the edge list the same way: gather each hyperedge's eight nodes, their
   pairwise squared distances, the position of the largest, its quotient and remainder by 8, and the two nodes at those columns. Each
   theorem says that one step, run from contents that agree on what the step reads, leaves the same array in both programs. -/
module

public import proofs.«01_k».proof.Proof.Gen.KernelIdeal.Frame
public import proofs.«01_k».proof.Proof.RefRun
public import Idealize.ShloMosaic.Lib.Pipeline.Value

@[expose] public section

set_option maxRecDepth 16384

noncomputable section

namespace Cert.Proof.Prefix

open Cert.KernelIdeal.Gen (hostOps0 hostOps0_1 hostOps0_2 hostOps0_3 hostOps0_4 hostOps0_5 hostOps0_6 hostOps0_7 hostOps0_8 hostOps0_9)
open Idealize.ShloMosaic Idealize.ShloMosaic.TcCoe Idealize.ShloMosaic.StableHlo Idealize.SL.Sem

/-- Buffer contents of the kernel's program, and of the reference's. -/
abbrev KVal := Valuation Cert.KernelIdeal.τ Cert.KernelIdeal.sig (Elt Ideal)
abbrev RVal := Valuation Cert.ReferenceIdeal.τ Cert.ReferenceIdeal.sig (Elt Ideal)

variable (V : KVal) (V' : RVal)

/-- An array of the kernel's program, and one of the reference's, by the name of its buffer. -/
abbrev kv (V : KVal) (r : Ref Cert.KernelIdeal.sig .tc) := V (Proc.devRef .tc r)
abbrev rv (V' : RVal) (r : Ref Cert.ReferenceIdeal.sig .tc) := V' (Proc.devRef .tc r)

/-- The pairwise squared distances. -/
theorem pair_eq (h0 : kv V Cert.KernelIdeal.main_arg0 = rv V' Cert.ReferenceIdeal.main_arg0) (h1 : kv V Cert.KernelIdeal.main_arg1 = rv V' Cert.ReferenceIdeal.main_arg1) :
    kv (after hostOps0 V) Cert.KernelIdeal.main_v18 = rv (after Ref.pairOps V') Cert.ReferenceIdeal.main_v18 := by
  unfold kv rv at *
  after_results
  rw [h0, h1]
  rfl

/-- The position of the largest of the 64. -/
theorem far_eq (h0 : kv V Cert.KernelIdeal.main_v18 = rv V' Cert.ReferenceIdeal.main_v18) :
    kv (after hostOps0_1 V) Cert.KernelIdeal.main_v19 = rv (after Ref.farOps V') Cert.ReferenceIdeal.main_v19 := by
  unfold kv rv at *
  after_results
  rw [h0]
  rfl

/-- The constant 8. -/
theorem eight_eq :
    kv (after hostOps0_2 V) Cert.KernelIdeal.main_c_2 = rv (after Ref.eightOps V') Cert.ReferenceIdeal.main_c_2 := by
  unfold kv rv at *
  after_results

/-- The position divided by 8. -/
theorem row_eq (h0 : kv V Cert.KernelIdeal.main_c_2 = rv V' Cert.ReferenceIdeal.main_c_2) (h1 : kv V Cert.KernelIdeal.main_v19 = rv V' Cert.ReferenceIdeal.main_v19) :
    kv (after hostOps0_3 V) Cert.KernelIdeal.main_v20 = rv (after Ref.rowOps V') Cert.ReferenceIdeal.main_v20 := by
  unfold kv rv at *
  after_results
  rw [h0, h1]

/-- The constant 8 again. -/
theorem eight2_eq :
    kv (after hostOps0_4 V) Cert.KernelIdeal.main_c_3 = rv (after Ref.eightOps2 V') Cert.ReferenceIdeal.main_c_3 := by
  unfold kv rv at *
  after_results

/-- The position modulo 8. -/
theorem col_eq (h0 : kv V Cert.KernelIdeal.main_c_3 = rv V' Cert.ReferenceIdeal.main_c_3) (h1 : kv V Cert.KernelIdeal.main_v19 = rv V' Cert.ReferenceIdeal.main_v19) :
    kv (after hostOps0_5 V) Cert.KernelIdeal.main_v21 = rv (after Ref.colOps V') Cert.ReferenceIdeal.main_v21 := by
  unfold kv rv at *
  after_results
  rw [h0, h1]

/-- The quotient as a column. -/
theorem rowCol_eq (h0 : kv V Cert.KernelIdeal.main_v20 = rv V' Cert.ReferenceIdeal.main_v20) :
    kv (after hostOps0_6 V) Cert.KernelIdeal.main_v22 = rv (after Ref.rowColOps V') Cert.ReferenceIdeal.main_v22 := by
  unfold kv rv at *
  after_results
  rw [h0]

/-- The node at the quotient. -/
theorem srcCol_eq (h0 : kv V Cert.KernelIdeal.main_arg1 = rv V' Cert.ReferenceIdeal.main_arg1) (h1 : kv V Cert.KernelIdeal.main_v22 = rv V' Cert.ReferenceIdeal.main_v22) :
    kv (after hostOps0_7 V) Cert.KernelIdeal.main_v23 = rv (after Ref.srcColOps V') Cert.ReferenceIdeal.main_v23 := by
  unfold kv rv at *
  after_results
  rw [h0, h1]
  rfl

/-- That node as a vector: the sources. -/
theorem src_eq (h0 : kv V Cert.KernelIdeal.main_v23 = rv V' Cert.ReferenceIdeal.main_v23) :
    kv (after hostOps0_8 V) Cert.KernelIdeal.main_v24 = rv (after Ref.srcOps V') Cert.ReferenceIdeal.main_v24 := by
  unfold kv rv at *
  after_results
  rw [h0]
  rfl

/-- The remainder as a column. -/
theorem colCol_eq (h0 : kv V Cert.KernelIdeal.main_v21 = rv V' Cert.ReferenceIdeal.main_v21) :
    kv (after hostOps0_8 V) Cert.KernelIdeal.main_v25 = rv (after Ref.srcOps V') Cert.ReferenceIdeal.main_v25 := by
  unfold kv rv at *
  after_results
  rw [h0]

/-- The node at the remainder. -/
theorem dstCol_eq (h0 : kv V Cert.KernelIdeal.main_arg1 = rv V' Cert.ReferenceIdeal.main_arg1) (h1 : kv V Cert.KernelIdeal.main_v25 = rv V' Cert.ReferenceIdeal.main_v25) :
    kv (after hostOps0_9 V) Cert.KernelIdeal.main_v26 = rv (after Ref.dstColOps V') Cert.ReferenceIdeal.main_v26 := by
  unfold kv rv at *
  after_results
  rw [h0, h1]
  rfl

/-! ## The edge list -/

section Edges

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

open Cert.KernelIdeal.Gen (W0 W1 W2 W3 W4 W5 W6 W7 W8 W9 W10 W0_args W1_of W2_of W3_of W4_of W5_of W6_of W7_of W8_of W9_of W10_of W7_args W9_args)

/-- Run from the same node features and hyperedges, the two programs compute the same edges: the sources and the targets. -/
theorem edges_eq (h0 : kv (W0 m ρ c) Cert.KernelIdeal.main_arg0 = rv V' Cert.ReferenceIdeal.main_arg0)
    (h1 : kv (W0 m ρ c) Cert.KernelIdeal.main_arg1 = rv V' Cert.ReferenceIdeal.main_arg1) :
    kv (W10 m ρ c) Cert.KernelIdeal.main_v24 = rv (Ref.R10 V') Cert.ReferenceIdeal.main_v24
      ∧ kv (W10 m ρ c) Cert.KernelIdeal.main_v26 = rv (Ref.R10 V') Cert.ReferenceIdeal.main_v26 := by
  have s19 := far_eq _ _ (pair_eq _ _ h0 h1)
  have s19₃ : kv (W3 m ρ c) Cert.KernelIdeal.main_v19 = rv (Ref.R3 V') Cert.ReferenceIdeal.main_v19 :=
    (W3_of m ρ c _ (by decide)).trans (s19.trans (Ref.R3_of V' _ (by decide)).symm)
  have s20 := row_eq _ _ (eight_eq (W2 m ρ c) (Ref.R2 V')) s19₃
  have s19₅ : kv (W5 m ρ c) Cert.KernelIdeal.main_v19 = rv (Ref.R5 V') Cert.ReferenceIdeal.main_v19 :=
    ((W5_of m ρ c _ (by decide)).trans (W4_of m ρ c _ (by decide))).trans
      (s19₃.trans ((Ref.R5_of V' _ (by decide)).trans (Ref.R4_of V' _ (by decide))).symm)
  have s21 := col_eq _ _ (eight2_eq (W4 m ρ c) (Ref.R4 V')) s19₅
  have s20₆ : kv (W6 m ρ c) Cert.KernelIdeal.main_v20 = rv (Ref.R6 V') Cert.ReferenceIdeal.main_v20 :=
    ((W6_of m ρ c _ (by decide)).trans (W5_of m ρ c _ (by decide))).trans
      (s20.trans ((Ref.R6_of V' _ (by decide)).trans (Ref.R5_of V' _ (by decide))).symm)
  have a₇ : kv (W7 m ρ c) Cert.KernelIdeal.main_arg1 = rv (Ref.R7 V') Cert.ReferenceIdeal.main_arg1 :=
    (W7_args m ρ c _ (by decide)).trans (h1.trans (Ref.R7_args V' _ (by decide)).symm)
  have s23 := srcCol_eq _ _ a₇ (rowCol_eq _ _ s20₆)
  have s24 := src_eq _ _ s23
  have s21₈ : kv (W8 m ρ c) Cert.KernelIdeal.main_v21 = rv (Ref.R8 V') Cert.ReferenceIdeal.main_v21 :=
    ((W8_of m ρ c _ (by decide)).trans (W7_of m ρ c _ (by decide))).trans
      (s21.trans ((Ref.R8_of V' _ (by decide)).trans (Ref.R7_of V' _ (by decide))).symm)
  have a₉ : kv (W9 m ρ c) Cert.KernelIdeal.main_arg1 = rv (Ref.R9 V') Cert.ReferenceIdeal.main_arg1 :=
    (W9_args m ρ c _ (by decide)).trans (h1.trans (Ref.R9_args V' _ (by decide)).symm)
  exact ⟨(W10_of m ρ c _ (by decide)).trans (s24.trans (Ref.R10_of V' _ (by decide)).symm), dstCol_eq _ _ a₉ (colCol_eq _ _ s21₈)⟩

end Edges

end Cert.Proof.Prefix

end
-- ==== Proof.RefRead.lean ====
/- The reference's result, at the ideal instance: each group of operations after the edges as plain formulas (`row_read`, `factor_read` …),
   chained to the whole program's result (`result_eq`): the reference's network of the argument arrays over its row of 300000 edges. -/
module

public import proofs.«01_k».proof.Proof.RefRun
public import proofs.«01_k».proof.Proof.Net

@[expose] public section

set_option maxRecDepth 16384

noncomputable section

namespace Cert.Proof.RefRead

open Cert.ReferenceIdeal Cert.ReferenceIdeal.Gen Cert.Proof.Words Cert.Proof.Net Cert.Proof.Rows Cert.Proof.Ref
open Idealize.ShloMosaic Idealize.ShloMosaic.TcCoe Idealize.ShloMosaic.StableHlo Idealize.SL.Sem

/-- A column as a vector. -/
abbrev flat {α : Type} (x : S100000x1.Idx → α) : S100000.Idx → α := shapeCast S100000 x shapeCasts_S100000x1_S100000

section Reads

variable (V : Valuation τ sig (Elt Ideal))

/-! ## The edges in one row -/

/-- The row of sources: the edges', the targets again, the loops'. -/
theorem src_read : (after edgeOps V (Proc.devRef .tc main_v29) : IVec S300000 32)
    = row (V (Proc.devRef .tc main_v24) : IVec S100000 32) (flat (V (Proc.devRef .tc main_v26) : IVec S100000x1 32)) loops
        concatenates_S100000_S100000_S100000_S300000_d0 := by
  after_results
  rfl
/-- The row of targets. -/
theorem dst_read : (after edgeOps V (Proc.devRef .tc main_v30) : IVec S300000 32)
    = row (flat (V (Proc.devRef .tc main_v26) : IVec S100000x1 32)) (V (Proc.devRef .tc main_v24) : IVec S100000 32) loops
        concatenates_S100000_S100000_S100000_S300000_d0 := by
  after_results
  rfl

/-! ## The factors and the weights -/

/-- The degrees bounded below by one, and their reciprocal square roots, as arrays. -/
abbrev factors (d : IVec S300000 32) : FVec Ideal S100000 .f32 :=
  Host.rsqrt (F := Ideal) (maximumf (F := Ideal) (φ := .f32)
    (Host.scatterAdd scatter_S100000_S300000x1_S300000_n_0_0_1 (broadcastInDim S100000 ![] bcast_S_S100000 (constant (F := Ideal) S_ .f32 0x00000000#32))
      (wrapCol d) (broadcastInDim S300000 ![] bcast_S_S300000 (constant (F := Ideal) S_ .f32 0x3F800000#32)))
    (broadcastInDim S100000 ![] bcast_S_S100000 (constant (F := Ideal) S_ .f32 0x3F800000#32)))

theorem factor_read : (after degOps V (Proc.devRef .tc main_v42) : FVec Ideal S100000 .f32) = factors (V (Proc.devRef .tc main_v30) : IVec S300000 32) := by
  after_results
  unfold factors
  rw [← wrapCol_eq bcast_S300000_S300000x1_0 bcast_S_S300000 bcast_S_S300000]

/-- A reciprocal square root at a node. -/
theorem rsqrt_of (x : FVec Ideal S100000 .f32) (i : S100000.Idx) {r : EReal} (h : (x i : EReal) = r) : (Host.rsqrt (F := Ideal) x i : EReal) = Ideal.rsqrt r := by
  rw [← h]
  rfl
/-- A larger of two at an index. -/
theorem max_of {s : Shape} (x y : FVec Ideal s .f32) (i : s.Idx) {a b : EReal} (hx : (x i : EReal) = a) (hy : (y i : EReal) = b) :
    (maximumf (F := Ideal) (φ := .f32) x y i : EReal) = max a b := by
  rw [← hx, ← hy]
  rfl

theorem factors_apply (d : IVec S300000 32) (v : Fin 100000) : (factors d (ix1 v) : EReal) = rinv d v := by
  have h := scatterAdd_vec scatter_S100000_S300000x1_S300000_n_0_0_1 rfl rfl rfl rfl
    (broadcastInDim S100000 ![] bcast_S_S100000 (constant (F := Ideal) S_ .f32 0x00000000#32)) (wrapCol d)
    (broadcastInDim S300000 ![] bcast_S_S300000 (constant (F := Ideal) S_ .f32 0x3F800000#32)) v
  have h0 : ((broadcastInDim S100000 ![] bcast_S_S100000 (constant (F := Ideal) S_ .f32 0x00000000#32)) (ix1 v) : EReal) = 0 := by pointwise
  have h1 : ∀ e, ((broadcastInDim S300000 ![] bcast_S_S300000 (constant (F := Ideal) S_ .f32 0x3F800000#32)) (ix1 e) : EReal) = 1 := fun e => by pointwise
  have h2 : ((broadcastInDim S100000 ![] bcast_S_S100000 (constant (F := Ideal) S_ .f32 0x3F800000#32)) (ix1 v) : EReal) = 1 := by pointwise
  simp only [h0, h1] at h
  exact rsqrt_of _ _ (max_of _ _ _ h h2)

/-- Each edge's weight: the product of the factors of its two nodes. -/
abbrev weights (s d : IVec S300000 32) (f : FVec Ideal S100000 .f32) : FVec Ideal S300000 .f32 :=
  mulf (F := Ideal) (φ := .f32) (Host.gather gather_S100000_S300000x1_S300000_n_0_n_n_0_1_1 f (wrapCol s))
    (Host.gather gather_S100000_S300000x1_S300000_n_0_n_n_0_1_1 f (wrapCol d))

theorem weight_read : (after weightOps V (Proc.devRef .tc main_v57) : FVec Ideal S300000 .f32)
    = weights (V (Proc.devRef .tc main_v29) : IVec S300000 32) (V (Proc.devRef .tc main_v30) : IVec S300000 32)
        (V (Proc.devRef .tc main_v42) : FVec Ideal S100000 .f32) := by
  after_results
  unfold weights
  rw [← wrapCol_eq bcast_S300000_S300000x1_0 bcast_S_S300000 bcast_S_S300000, ← wrapCol_eq bcast_S300000_S300000x1_0 bcast_S_S300000 bcast_S_S300000]

theorem weights_apply (s d : IVec S300000 32) (f : FVec Ideal S100000 .f32) (e : Fin 300000) :
    (weights s d f (ix1 e) : EReal) = (f (ix1 (node s e)) : EReal) * (f (ix1 (node d e)) : EReal) := by
  show (Host.gather _ f (wrapCol s) (ix1 e) : EReal) * (Host.gather _ f (wrapCol d) (ix1 e) : EReal) = _
  rw [gather_vec _ rfl rfl rfl rfl f _ (by decide : 0 < 100000), gather_vec _ rfl rfl rfl rfl f _ (by decide : 0 < 100000)]
  rfl

/-! ## The layers -/

/-- A layer's sum over the row: the gathered rows times the weights, added at the targets. -/
abbrev spreadArray {C : ℕ} (D : ScatterDims ⟨2, ![100000, C]⟩ ⟨2, ![300000, 1]⟩ ⟨2, ![300000, C]⟩)
    (G : GatherDims ⟨2, ![100000, C]⟩ ⟨2, ![300000, 1]⟩ ⟨2, ![300000, C]⟩) (h0 : (⟨0, ![]⟩ : Shape).BroadcastsInDim ⟨2, ![100000, C]⟩ ![])
    (h1 : (⟨2, ![300000, 1]⟩ : Shape).BroadcastsInDim ⟨2, ![300000, C]⟩ ![0, 1])
    (x : FVec Ideal ⟨2, ![100000, C]⟩ .f32) (s d : IVec S300000 32) (w : FVec Ideal S300000 .f32) : FVec Ideal ⟨2, ![100000, C]⟩ .f32 :=
  Host.scatterAdd D (broadcastInDim ⟨2, ![100000, C]⟩ ![] h0 (constant (F := Ideal) S_ .f32 0x00000000#32)) (wrapCol d)
    (mulf (F := Ideal) (φ := .f32) (Host.gather G x (wrapCol s))
      (broadcastInDim ⟨2, ![300000, C]⟩ ![0, 1] h1 (broadcastInDim S300000x1 ![0] bcast_S300000_S300000x1_0 w)))

/-- The weights laid out beside the rows. -/
theorem beside_apply {C : ℕ} (h1 : (⟨2, ![300000, 1]⟩ : Shape).BroadcastsInDim ⟨2, ![300000, C]⟩ ![0, 1]) (w : FVec Ideal S300000 .f32)
    (e : Fin 300000) (j : Fin C) :
    broadcastInDim ⟨2, ![300000, C]⟩ ![0, 1] h1 (broadcastInDim S300000x1 ![0] bcast_S300000_S300000x1_0 w) (ix2 e j) = w (ix1 e) :=
  congrArg w (funext fun a => by match a with | ⟨0, _⟩ => rfl)

theorem spreadArray_apply {C : ℕ} (D : ScatterDims ⟨2, ![100000, C]⟩ ⟨2, ![300000, 1]⟩ ⟨2, ![300000, C]⟩) (huw : D.updateWindowDims = [1])
    (hiw : D.insertedWindowDims = [0]) (hsd : D.scatterDimsToOperandDims = [0]) (hivd : D.indexVectorDim = 1)
    (G : GatherDims ⟨2, ![100000, C]⟩ ⟨2, ![300000, 1]⟩ ⟨2, ![300000, C]⟩) (hoff : G.offsetDims = [1]) (hcoll : G.collapsedSliceDims = [0])
    (hob : G.operandBatchingDims = []) (hsim : G.startIndexMap = [0]) (hgv : G.indexVectorDim = 1)
    (h0 : (⟨0, ![]⟩ : Shape).BroadcastsInDim ⟨2, ![100000, C]⟩ ![])
    (h1 : (⟨2, ![300000, 1]⟩ : Shape).BroadcastsInDim ⟨2, ![300000, C]⟩ ![0, 1])
    (x : FVec Ideal ⟨2, ![100000, C]⟩ .f32) (s d : IVec S300000 32) (w : FVec Ideal S300000 .f32)
    (hw : ∀ e, (w (ix1 e) : EReal) = rinv d (node s e) * rinv d (node d e)) (v : Fin 100000) (j : Fin C) :
    (spreadArray D G h0 h1 x s d w (ix2 v j) : EReal) = spread s d (fun u k => (x (ix2 u k) : EReal)) v j := by
  have hz : ((broadcastInDim ⟨2, ![100000, C]⟩ ![] h0 (constant (F := Ideal) S_ .f32 0x00000000#32)) (ix2 v j) : EReal) = 0 := by pointwise
  have hm : ∀ e, (mulf (F := Ideal) (φ := .f32) (Host.gather G x (wrapCol s))
      (broadcastInDim ⟨2, ![300000, C]⟩ ![0, 1] h1 (broadcastInDim S300000x1 ![0] bcast_S300000_S300000x1_0 w)) (ix2 e j) : EReal)
      = (x (ix2 (node s e) j) : EReal) * (rinv d (node s e) * rinv d (node d e)) := fun e => by
    show (Host.gather G x (wrapCol s) (ix2 e j) : EReal)
      * (broadcastInDim ⟨2, ![300000, C]⟩ ![0, 1] h1 (broadcastInDim S300000x1 ![0] bcast_S300000_S300000x1_0 w) (ix2 e j) : EReal) = _
    rw [gather_rows G hoff hcoll hob hsim hgv _ _ (by decide : 0 < 100000), beside_apply, hw]
    rfl
  unfold spreadArray
  rw [scatterAdd_rows D huw hiw hsd hivd, hz]
  simp only [hm]
  rfl

/-- The first linear layer's array. -/
abbrev linArray1 (x : FVec Ideal S100000x128 .f32) (w : FVec Ideal S128x128 .f32) (b : FVec Ideal S128 .f32) : FVec Ideal S100000x128 .f32 :=
  addf (F := Ideal) (φ := .f32) (Host.dotGeneral dot_S100000x128_S128x128_S100000x128_1_0_0_1_n_n none x w)
    (broadcastInDim S100000x128 ![0, 1] bcast_S1x128_S100000x128_0_1 (broadcastInDim S1x128 ![1] bcast_S128_S1x128_1 b))
theorem linArray1_apply (x : FVec Ideal S100000x128 .f32) (w : FVec Ideal S128x128 .f32) (b : FVec Ideal S128 .f32) (v : Fin 100000) (j : Fin 128) :
    (linArray1 x w b (ix2 v j) : EReal) = lin (fun u k => (x (ix2 u k) : EReal)) (fun k j => (w (ix2 k j) : EReal)) (fun j => (b (ix1 j) : EReal)) v j := by
  unfold lin
  pointwise

/-- The second linear layer's array. -/
abbrev linArray2 (x : FVec Ideal S100000x128 .f32) (w : FVec Ideal S128x64 .f32) (b : FVec Ideal S64 .f32) : FVec Ideal S100000x64 .f32 :=
  addf (F := Ideal) (φ := .f32) (Host.dotGeneral dot_S100000x128_S128x64_S100000x64_1_0_0_1_n_n none x w)
    (broadcastInDim S100000x64 ![0, 1] bcast_S1x64_S100000x64_0_1 (broadcastInDim S1x64 ![1] bcast_S64_S1x64_1 b))
theorem linArray2_apply (x : FVec Ideal S100000x128 .f32) (w : FVec Ideal S128x64 .f32) (b : FVec Ideal S64 .f32) (v : Fin 100000) (j : Fin 64) :
    (linArray2 x w b (ix2 v j) : EReal) = lin (fun u k => (x (ix2 u k) : EReal)) (fun k j => (w (ix2 k j) : EReal)) (fun j => (b (ix1 j) : EReal)) v j := by
  unfold lin
  pointwise

theorem layer1_read : (after layerOps1 V (Proc.devRef .tc main_v79) : FVec Ideal S100000x128 .f32)
    = spreadArray scatter_S100000x128_S300000x1_S300000x128_1_0_0_1 gather_S100000x128_S300000x1_S300000x128_1_0_n_n_0_1_1128 bcast_S_S100000x128
        bcast_S300000x1_S300000x128_0_1
        (linArray1 (V (Proc.devRef .tc main_arg0) : FVec Ideal S100000x128 .f32) (V (Proc.devRef .tc main_arg2) : FVec Ideal S128x128 .f32)
          (V (Proc.devRef .tc main_arg3) : FVec Ideal S128 .f32))
        (V (Proc.devRef .tc main_v29) : IVec S300000 32) (V (Proc.devRef .tc main_v30) : IVec S300000 32) (V (Proc.devRef .tc main_v57) : FVec Ideal S300000 .f32) := by
  after_results
  unfold spreadArray
  rw [← wrapCol_eq bcast_S300000_S300000x1_0 bcast_S_S300000 bcast_S_S300000, ← wrapCol_eq bcast_S300000_S300000x1_0 bcast_S_S300000 bcast_S_S300000]

theorem relu_read : (after reluOps V (Proc.devRef .tc main_v80) : FVec Ideal S100000x128 .f32)
    = maximumf (F := Ideal) (φ := .f32) (V (Proc.devRef .tc main_v79) : FVec Ideal S100000x128 .f32)
        (broadcastInDim S100000x128 ![] bcast_S_S100000x128 (constant (F := Ideal) S_ .f32 0x00000000#32)) := by
  after_results
  rfl
theorem zeros_apply (i : S100000x128.Idx) : (broadcastInDim S100000x128 ![] bcast_S_S100000x128 (constant (F := Ideal) S_ .f32 0x00000000#32) i : EReal) = 0 := by
  pointwise

theorem layer2_read : (after layerOps2 V (Proc.devRef .tc main_v102) : FVec Ideal S100000x64 .f32)
    = spreadArray scatter_S100000x64_S300000x1_S300000x64_1_0_0_1 gather_S100000x64_S300000x1_S300000x64_1_0_n_n_0_1_164 bcast_S_S100000x64
        bcast_S300000x1_S300000x64_0_1
        (linArray2 (V (Proc.devRef .tc main_v80) : FVec Ideal S100000x128 .f32) (V (Proc.devRef .tc main_arg4) : FVec Ideal S128x64 .f32)
          (V (Proc.devRef .tc main_arg5) : FVec Ideal S64 .f32))
        (V (Proc.devRef .tc main_v29) : IVec S300000 32) (V (Proc.devRef .tc main_v30) : IVec S300000 32) (V (Proc.devRef .tc main_v57) : FVec Ideal S300000 .f32) := by
  after_results
  unfold spreadArray
  rw [← wrapCol_eq bcast_S300000_S300000x1_0 bcast_S_S300000 bcast_S_S300000, ← wrapCol_eq bcast_S300000_S300000x1_0 bcast_S_S300000 bcast_S_S300000]

end Reads

/-! ## The whole program -/

variable (V : Valuation τ sig (Elt Ideal))

/-- The argument arrays. -/
abbrev argX : Mat 128 := fun u k => ((V (Proc.devRef .tc main_arg0) : FVec Ideal S100000x128 .f32) (ix2 u k) : EReal)
abbrev argW1 : Fin 128 → Fin 128 → EReal := fun k j => ((V (Proc.devRef .tc main_arg2) : FVec Ideal S128x128 .f32) (ix2 k j) : EReal)
abbrev argB1 : Fin 128 → EReal := fun j => ((V (Proc.devRef .tc main_arg3) : FVec Ideal S128 .f32) (ix1 j) : EReal)
abbrev argW2 : Fin 128 → Fin 64 → EReal := fun k j => ((V (Proc.devRef .tc main_arg4) : FVec Ideal S128x64 .f32) (ix2 k j) : EReal)
abbrev argB2 : Fin 64 → EReal := fun j => ((V (Proc.devRef .tc main_arg5) : FVec Ideal S64 .f32) (ix1 j) : EReal)

/-- The row's sources and targets. -/
abbrev srcs : IVec S300000 32 := R11 V (Proc.devRef .tc main_v29)
abbrev dsts : IVec S300000 32 := R11 V (Proc.devRef .tc main_v30)

/-- Each edge's weight, once the factors and the weights are computed. -/
theorem weight_eq (e : Fin 300000) : ((R13 V (Proc.devRef .tc main_v57) : FVec Ideal S300000 .f32) (ix1 e) : EReal)
    = rinv (dsts V) (node (srcs V) e) * rinv (dsts V) (node (dsts V) e) := by
  have hf : ∀ u, ((R12 V (Proc.devRef .tc main_v42) : FVec Ideal S100000 .f32) (ix1 u) : EReal) = rinv (dsts V) u := fun u =>
    (congrFun (factor_read (R11 V)) (ix1 u)).trans (factors_apply _ u)
  have hs : (R12 V (Proc.devRef .tc main_v29) : IVec S300000 32) = srcs V := R12_of V _ (by decide)
  have hd : (R12 V (Proc.devRef .tc main_v30) : IVec S300000 32) = dsts V := R12_of V _ (by decide)
  have h := (congrFun (weight_read (R12 V)) (ix1 e)).trans (weights_apply _ _ _ e)
  rw [hf, hf, hs, hd] at h
  exact h

/-- The first layer's rows after the rectifier. -/
theorem hidden_eq (v : Fin 100000) (j : Fin 128) : ((R15 V (Proc.devRef .tc main_v80) : FVec Ideal S100000x128 .f32) (ix2 v j) : EReal)
    = relu (spread (srcs V) (dsts V) (lin (argX V) (argW1 V) (argB1 V))) v j := by
  have hs : (R13 V (Proc.devRef .tc main_v29) : IVec S300000 32) = srcs V := (R13_of V _ (by decide)).trans (R12_of V _ (by decide))
  have hd : (R13 V (Proc.devRef .tc main_v30) : IVec S300000 32) = dsts V := (R13_of V _ (by decide)).trans (R12_of V _ (by decide))
  have hx : R13 V (Proc.devRef .tc main_arg0) = V (Proc.devRef .tc main_arg0) := R13_args V _ (by decide)
  have hw : R13 V (Proc.devRef .tc main_arg2) = V (Proc.devRef .tc main_arg2) := R13_args V _ (by decide)
  have hb : R13 V (Proc.devRef .tc main_arg3) = V (Proc.devRef .tc main_arg3) := R13_args V _ (by decide)
  have h := layer1_read (R13 V)
  rw [hs, hd, hx, hw, hb] at h
  have h' := (congrFun h (ix2 v j)).trans (spreadArray_apply _ rfl rfl rfl rfl _ rfl rfl rfl rfl rfl _ _ _ (srcs V) (dsts V) _ (weight_eq V) v j)
  have hl : (fun u k => (linArray1 (V (Proc.devRef .tc main_arg0) : FVec Ideal S100000x128 .f32) (V (Proc.devRef .tc main_arg2) : FVec Ideal S128x128 .f32)
      (V (Proc.devRef .tc main_arg3) : FVec Ideal S128 .f32) (ix2 u k) : EReal)) = lin (argX V) (argW1 V) (argB1 V) :=
    funext fun u => funext fun k => linArray1_apply _ _ _ u k
  exact (congrFun (relu_read (R14 V)) (ix2 v j)).trans
    (max_of _ _ _ (h'.trans (congrFun (congrFun (congrArg (spread (srcs V) (dsts V)) hl) v) j)) (zeros_apply _))

/-- The program's result is the reference's network over the row. -/
theorem result_eq (v : Fin 100000) (j : Fin 64) : ((R16 V (Proc.devRef .tc main_v102) : FVec Ideal S100000x64 .f32) (ix2 v j) : EReal)
    = referenceNet (srcs V) (dsts V) (argX V) (argW1 V) (argB1 V) (argW2 V) (argB2 V) v j := by
  have hs : (R15 V (Proc.devRef .tc main_v29) : IVec S300000 32) = srcs V :=
    (R15_of V _ (by decide)).trans ((R14_of V _ (by decide)).trans ((R13_of V _ (by decide)).trans (R12_of V _ (by decide))))
  have hd : (R15 V (Proc.devRef .tc main_v30) : IVec S300000 32) = dsts V :=
    (R15_of V _ (by decide)).trans ((R14_of V _ (by decide)).trans ((R13_of V _ (by decide)).trans (R12_of V _ (by decide))))
  have hg : (R15 V (Proc.devRef .tc main_v57) : FVec Ideal S300000 .f32) = R13 V (Proc.devRef .tc main_v57) :=
    (R15_of V _ (by decide)).trans (R14_of V _ (by decide))
  have hw : R15 V (Proc.devRef .tc main_arg4) = V (Proc.devRef .tc main_arg4) := R15_args V _ (by decide)
  have hb : R15 V (Proc.devRef .tc main_arg5) = V (Proc.devRef .tc main_arg5) := R15_args V _ (by decide)
  have h := layer2_read (R15 V)
  rw [hs, hd, hg, hw, hb] at h
  have h' := (congrFun h (ix2 v j)).trans (spreadArray_apply _ rfl rfl rfl rfl _ rfl rfl rfl rfl rfl _ _ _ (srcs V) (dsts V) _ (weight_eq V) v j)
  have hx : (fun u k => ((R15 V (Proc.devRef .tc main_v80) : FVec Ideal S100000x128 .f32) (ix2 u k) : EReal))
      = relu (spread (srcs V) (dsts V) (lin (argX V) (argW1 V) (argB1 V))) := funext fun u => funext fun k => hidden_eq V u k
  have hl : (fun u k => (linArray2 (R15 V (Proc.devRef .tc main_v80) : FVec Ideal S100000x128 .f32) (V (Proc.devRef .tc main_arg4) : FVec Ideal S128x64 .f32)
      (V (Proc.devRef .tc main_arg5) : FVec Ideal S64 .f32) (ix2 u k) : EReal))
      = lin (relu (spread (srcs V) (dsts V) (lin (argX V) (argW1 V) (argB1 V)))) (argW2 V) (argB2 V) :=
    funext fun u => funext fun k => (linArray2_apply _ _ _ u k).trans (congrFun (congrFun (congrArg (fun x => lin x (argW2 V) (argB2 V)) hx) u) k)
  exact h'.trans (congrFun (congrFun (congrArg (spread (srcs V) (dsts V)) hl) v) j)

end Cert.Proof.RefRead

end
-- ==== Proof.lean ====
/- The proof of the claims: the three frames, that the idealization preserves the kernel, and that the idealized kernel and the idealized
   reference end with the same array. The pieces: the kernel's run and its result (Proof/KernelRun.lean, Proof/KernelValue.lean), the
   reference's (Proof/RefRun.lean, Proof/RefRead.lean), the edges both compute by the same operations (Proof/Prefix.lean), and the equation of
   the two networks over them (Proof/Net.lean). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.KernelValue
public import proofs.«01_k».proof.Proof.Prefix
public import proofs.«01_k».proof.Proof.RefRead
public import Idealize.ShloMosaic.Lib.Quiescent

@[expose] public section

set_option maxRecDepth 16384

noncomputable section

namespace Cert.Proof

open Idealize.ShloMosaic Idealize.ShloMosaic.TcCoe Idealize.ShloMosaic.StableHlo Idealize.SL.Sem

/-! ## The reference's run -/

/-- The reference's run, with its result at the fold and the argument arrays as launched. -/
theorem reference_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ fun r =>
      ∀ c : Dev ReferenceIdeal.nD,
        r.2.mem ((c.tc : Thread ReferenceIdeal.nD ReferenceIdeal.τ).loc ReferenceIdeal.main_v102)
            = Ref.R16 (launchContents m c) (Proc.devRef .tc ReferenceIdeal.main_v102)
          ∧ ∀ a ∈ Ref.argRefs, r.2.mem ((c.tc : Thread ReferenceIdeal.nD ReferenceIdeal.τ).loc a)
              = m ((c.tc : Thread ReferenceIdeal.nD ReferenceIdeal.τ).loc a) :=
  (θ_run ReferenceIdeal.defs _ _).mono (fun _ h c => ⟨h c _, fun a ha => (h c a).trans (Ref.R16_args (launchContents m c) a ha)⟩) (Ref.run_main m g)

/-! ## The two results -/

/-- From memories that agree on the arguments, the two programs' results are the same array. -/
theorem results_eq (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (c : Dev KernelIdeal.nD)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2))
    (e3 : m' ((c.tc : Thread ReferenceIdeal.nD ReferenceIdeal.τ).loc ReferenceIdeal.main_arg3) = m ((c.tc : Thread KernelIdeal.nD KernelIdeal.τ).loc KernelIdeal.main_arg3))
    (e4 : m' ((c.tc : Thread ReferenceIdeal.nD ReferenceIdeal.τ).loc ReferenceIdeal.main_arg4) = m ((c.tc : Thread KernelIdeal.nD KernelIdeal.τ).loc KernelIdeal.main_arg4))
    (e5 : m' ((c.tc : Thread ReferenceIdeal.nD ReferenceIdeal.τ).loc ReferenceIdeal.main_arg5) = m ((c.tc : Thread KernelIdeal.nD KernelIdeal.τ).loc KernelIdeal.main_arg5)) :
    (Ref.R16 (launchContents m' c) (Proc.devRef .tc ReferenceIdeal.main_v102) : FVec Ideal ⟨2, ![100000, 64]⟩ .f32)
      = (KernelIdeal.Gen.W16 m g c (Proc.devRef .tc KernelIdeal.main_v109) : FVec Ideal ⟨2, ![100000, 64]⟩ .f32) := by
  obtain ⟨h24, h26⟩ := Prefix.edges_eq (launchContents m' c) m g c e0.symm e1.symm
  -- the reference's row of edges, over the kernel's sources and targets
  have hs : RefRead.srcs (launchContents m' c) = Words.row (KernelValue.srcs m g c) (KernelValue.dsts m g c) Words.loops
      ReferenceIdeal.Gen.concatenates_S100000_S100000_S100000_S300000_d0 :=
    (RefRead.src_read (Ref.R10 (launchContents m' c))).trans
      (congrArg₂ (fun a b => Words.row a (RefRead.flat b) Words.loops ReferenceIdeal.Gen.concatenates_S100000_S100000_S100000_S300000_d0) h24.symm h26.symm)
  have hd : RefRead.dsts (launchContents m' c) = Words.row (KernelValue.dsts m g c) (KernelValue.srcs m g c) Words.loops
      ReferenceIdeal.Gen.concatenates_S100000_S100000_S100000_S300000_d0 :=
    (RefRead.dst_read (Ref.R10 (launchContents m' c))).trans
      (congrArg₂ (fun a b => Words.row (RefRead.flat b) a Words.loops ReferenceIdeal.Gen.concatenates_S100000_S100000_S100000_S300000_d0) h24.symm h26.symm)
  -- the arguments
  have x0 : RefRead.argX (launchContents m' c) = KernelValue.argX m c := funext fun u => funext fun k => congrFun e0 (ix2 u k)
  have x2 : RefRead.argW1 (launchContents m' c) = KernelValue.argW1 m c := funext fun k => funext fun j => congrFun e2 (ix2 k j)
  have x3 : RefRead.argB1 (launchContents m' c) = KernelValue.argB1 m c := funext fun j => congrFun e3 (ix1 j)
  have x4 : RefRead.argW2 (launchContents m' c) = KernelValue.argW2 m c := funext fun k => funext fun j => congrFun e4 (ix2 k j)
  have x5 : RefRead.argB2 (launchContents m' c) = KernelValue.argB2 m c := funext fun j => congrFun e5 (ix1 j)
  have at_eq (v : Fin 100000) (j : Fin 64) :
      (Ref.R16 (launchContents m' c) (Proc.devRef .tc ReferenceIdeal.main_v102) : FVec Ideal ⟨2, ![100000, 64]⟩ .f32) (ix2 v j)
        = (KernelIdeal.Gen.W16 m g c (Proc.devRef .tc KernelIdeal.main_v109) : FVec Ideal ⟨2, ![100000, 64]⟩ .f32) (ix2 v j) := by
    refine (RefRead.result_eq (launchContents m' c) v j).trans (Eq.trans ?_ (KernelValue.result_eq m g c v j).symm)
    rw [hs, hd, x0, x2, x3, x4, x5, Net.net_eq]
  refine funext fun i : (⟨2, ![100000, 64]⟩ : Shape).Idx => ?_
  have hi := eq_ix2 i
  rw [hi]
  exact at_eq (i 0) (i 1)

/-! ## The claims -/

theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => (θ_run ReferenceIdeal.defs _ _).mono (fun r h =>
    ⟨fun c => ⟨(h c).2 _ (by decide), (h c).2 _ (by decide), (h c).2 _ (by decide), (h c).2 _ (by decide), (h c).2 _ (by decide), (h c).2 _ (by decide)⟩,
      sem_eq_zero_of_no_sems (by decide) r.2⟩) (reference_run m g),
  trivial,
  fun m g m' g' _ hargs => ⟨fun c => KernelIdeal.Gen.W16 m g c (Proc.devRef .tc KernelIdeal.main_v109),
    KernelRun.run_value m g,
    (θ_run ReferenceIdeal.defs _ _).mono (fun r h c =>
      ⟨(h c).1.trans (results_eq m g m' c (hargs c).1 (hargs c).2.1 (hargs c).2.2.1 (hargs c).2.2.2.1 (hargs c).2.2.2.2.1 (hargs c).2.2.2.2.2),
        (h c).2 _ (by decide), (h c).2 _ (by decide), (h c).2 _ (by decide), (h c).2 _ (by decide), (h c).2 _ (by decide), (h c).2 _ (by decide)⟩)
      (reference_run m' g')⟩⟩

end Cert.Proof

end
